-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_numbers [hPre_numbers : Cert.Pre_numbers.Facts] (m : (ℓ : Loc Cert.MergeIdeal.nD Cert.MergeIdeal.τ Cert.MergeIdeal.sig) → Buf (Elt Ideal) ℓ) : Prop :=
  ∀ c : Dev Cert.MergeIdeal.nD,
    (Cert.Pre_numbers.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_numbers [hPre_numbers : Cert.Pre_numbers.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_numbers.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_Columns (m : (ℓ : Loc Cert.Columns.nD Cert.Columns.τ Cert.Columns.sig) → Buf (Elt Bits) ℓ) : Prop :=
  True

def Pre_ColumnsIdeal (m : (ℓ : Loc Cert.ColumnsIdeal.nD Cert.ColumnsIdeal.τ Cert.ColumnsIdeal.sig) → Buf (Elt Ideal) ℓ) : Prop :=
  True

def Pre_ColumnsRefIdeal (m : (ℓ : Loc Cert.ColumnsRefIdeal.nD Cert.ColumnsRefIdeal.τ Cert.ColumnsRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeIdeal_pre_numbers [hMergeIdeal : Cert.MergeIdeal.Facts] [hPre_numbers : Cert.Pre_numbers.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_numbers m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_MergeRefIdeal_pre_numbers [hMergeRefIdeal : Cert.MergeRefIdeal.Facts] [hPre_numbers : Cert.Pre_numbers.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_numbers m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2)
      ∧ r.2.mem ((c.tc : Thread Cert.Mods.nD Cert.Mods.τ).loc Cert.Mods.main_arg3) = m ((c.tc : Thread Cert.Mods.nD Cert.Mods.τ).loc Cert.Mods.main_arg3))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
      ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2)
      ∧ r.2.mem ((c.tc : Thread Cert.ModsRefIdeal.nD Cert.ModsRefIdeal.τ).loc Cert.ModsRefIdeal.main_arg3) = m ((c.tc : Thread Cert.ModsRefIdeal.nD Cert.ModsRefIdeal.τ).loc Cert.ModsRefIdeal.main_arg3))
      ∧ r.2.sem = fun _ => 0)

def quiescent_Columns [hColumns : Cert.Columns.Facts] : Prop :=
  ∀ (m : (ℓ : Loc Cert.Columns.nD Cert.Columns.τ Cert.Columns.sig) → Buf (Elt Bits) ℓ) (g : Dev Cert.Columns.nD → PrngReg), Pre_Columns m →
    θ_run (Cert.Columns.defs (F := Bits)) (onTc (τ := Cert.Columns.τ) (Cert.Columns.main (F := Bits))) ⟨m, fun _ => 0, g⟩ (fun r => (∀ c : Dev Cert.Columns.nD,
      r.2.mem ((c.tc : Thread Cert.Columns.nD Cert.Columns.τ).loc Cert.Columns.main_arg0) = m ((c.tc : Thread Cert.Columns.nD Cert.Columns.τ).loc Cert.Columns.main_arg0))
      ∧ r.2.sem = fun _ => 0)

def quiescent_ColumnsIdeal [hColumnsIdeal : Cert.ColumnsIdeal.Facts] : Prop :=
  ∀ (m : (ℓ : Loc Cert.ColumnsIdeal.nD Cert.ColumnsIdeal.τ Cert.ColumnsIdeal.sig) → Buf (Elt Ideal) ℓ) (g : Dev Cert.ColumnsIdeal.nD → PrngReg), Pre_ColumnsIdeal m →
    θ_run (Cert.ColumnsIdeal.defs (F := Ideal)) (onTc (τ := Cert.ColumnsIdeal.τ) (Cert.ColumnsIdeal.main (F := Ideal))) ⟨m, fun _ => 0, g⟩ (fun r => (∀ c : Dev Cert.ColumnsIdeal.nD,
      r.2.mem ((c.tc : Thread Cert.ColumnsIdeal.nD Cert.ColumnsIdeal.τ).loc Cert.ColumnsIdeal.main_arg0) = m ((c.tc : Thread Cert.ColumnsIdeal.nD Cert.ColumnsIdeal.τ).loc Cert.ColumnsIdeal.main_arg0))
      ∧ r.2.sem = fun _ => 0)

def quiescent_ColumnsRefIdeal [hColumnsRefIdeal : Cert.ColumnsRefIdeal.Facts] : Prop :=
  ∀ (m : (ℓ : Loc Cert.ColumnsRefIdeal.nD Cert.ColumnsRefIdeal.τ Cert.ColumnsRefIdeal.sig) → Buf (Elt Ideal) ℓ) (g : Dev Cert.ColumnsRefIdeal.nD → PrngReg), Pre_ColumnsRefIdeal m →
    θ_run (Cert.ColumnsRefIdeal.defs (F := Ideal)) (onTc (τ := Cert.ColumnsRefIdeal.τ) (Cert.ColumnsRefIdeal.main (F := Ideal))) ⟨m, fun _ => 0, g⟩ (fun r => (∀ c : Dev Cert.ColumnsRefIdeal.nD,
      r.2.mem ((c.tc : Thread Cert.ColumnsRefIdeal.nD Cert.ColumnsRefIdeal.τ).loc Cert.ColumnsRefIdeal.main_arg0) = m ((c.tc : Thread Cert.ColumnsRefIdeal.nD Cert.ColumnsRefIdeal.τ).loc Cert.ColumnsRefIdeal.main_arg0))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v37) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal_pre_numbers [hMergeIdeal : Cert.MergeIdeal.Facts] [hMergeRefIdeal : Cert.MergeRefIdeal.Facts] [hPre_numbers : Cert.Pre_numbers.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_numbers m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v84) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v30) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)
      ∧ m' ((c.tc : Thread Cert.ModsRefIdeal.nD Cert.ModsRefIdeal.τ).loc Cert.ModsRefIdeal.main_arg3) = m ((c.tc : Thread Cert.ModsIdeal.nD Cert.ModsIdeal.τ).loc Cert.ModsIdeal.main_arg3)) →
    ∃ (v0 : (c : Dev Cert.ModsIdeal.nD) → Buf (Elt Ideal) ((c.tc : Thread Cert.ModsIdeal.nD Cert.ModsIdeal.τ).loc Cert.ModsIdeal.main_v4)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v4) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
          ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v8) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2)
          ∧ r.2.mem ((c.tc : Thread Cert.ModsRefIdeal.nD Cert.ModsRefIdeal.τ).loc Cert.ModsRefIdeal.main_arg3) = m' ((c.tc : Thread Cert.ModsRefIdeal.nD Cert.ModsRefIdeal.τ).loc Cert.ModsRefIdeal.main_arg3))

def preserves_Columns_ColumnsIdeal : Prop :=
  True

def algebraic_ColumnsIdeal_ColumnsRefIdeal [hColumnsIdeal : Cert.ColumnsIdeal.Facts] [hColumnsRefIdeal : Cert.ColumnsRefIdeal.Facts] : Prop :=
  ∀ (m : (ℓ : Loc Cert.ColumnsIdeal.nD Cert.ColumnsIdeal.τ Cert.ColumnsIdeal.sig) → Buf (Elt Ideal) ℓ) (g : Dev Cert.ColumnsIdeal.nD → PrngReg)
    (m' : (ℓ : Loc Cert.ColumnsRefIdeal.nD Cert.ColumnsRefIdeal.τ Cert.ColumnsRefIdeal.sig) → Buf (Elt Ideal) ℓ) (g' : Dev Cert.ColumnsRefIdeal.nD → PrngReg), Pre_ColumnsIdeal m →
    (∀ c : Dev Cert.ColumnsIdeal.nD,
      m' ((c.tc : Thread Cert.ColumnsRefIdeal.nD Cert.ColumnsRefIdeal.τ).loc Cert.ColumnsRefIdeal.main_arg0) = m ((c.tc : Thread Cert.ColumnsIdeal.nD Cert.ColumnsIdeal.τ).loc Cert.ColumnsIdeal.main_arg0)) →
    ∃ (v0 : (c : Dev Cert.ColumnsIdeal.nD) → Buf (Elt Ideal) ((c.tc : Thread Cert.ColumnsIdeal.nD Cert.ColumnsIdeal.τ).loc Cert.ColumnsIdeal.main_v0_0)) (v1 : (c : Dev Cert.ColumnsIdeal.nD) → Buf (Elt Ideal) ((c.tc : Thread Cert.ColumnsIdeal.nD Cert.ColumnsIdeal.τ).loc Cert.ColumnsIdeal.main_v0_1)),
      θ_run (Cert.ColumnsIdeal.defs (F := Ideal)) (onTc (τ := Cert.ColumnsIdeal.τ) (Cert.ColumnsIdeal.main (F := Ideal))) ⟨m, fun _ => 0, g⟩ (fun r => ∀ c : Dev Cert.ColumnsIdeal.nD,
          r.2.mem ((c.tc : Thread Cert.ColumnsIdeal.nD Cert.ColumnsIdeal.τ).loc Cert.ColumnsIdeal.main_v0_0) = v0 c
          ∧ r.2.mem ((c.tc : Thread Cert.ColumnsIdeal.nD Cert.ColumnsIdeal.τ).loc Cert.ColumnsIdeal.main_v0_1) = v1 c
          ∧ r.2.mem ((c.tc : Thread Cert.ColumnsIdeal.nD Cert.ColumnsIdeal.τ).loc Cert.ColumnsIdeal.main_arg0) = m ((c.tc : Thread Cert.ColumnsIdeal.nD Cert.ColumnsIdeal.τ).loc Cert.ColumnsIdeal.main_arg0))
      ∧ θ_run (Cert.ColumnsRefIdeal.defs (F := Ideal)) (onTc (τ := Cert.ColumnsRefIdeal.τ) (Cert.ColumnsRefIdeal.main (F := Ideal))) ⟨m', fun _ => 0, g'⟩ (fun r => ∀ c : Dev Cert.ColumnsRefIdeal.nD,
          r.2.mem ((c.tc : Thread Cert.ColumnsRefIdeal.nD Cert.ColumnsRefIdeal.τ).loc Cert.ColumnsRefIdeal.main_v22) = v0 c
          ∧ r.2.mem ((c.tc : Thread Cert.ColumnsRefIdeal.nD Cert.ColumnsRefIdeal.τ).loc Cert.ColumnsRefIdeal.main_v23) = v1 c
          ∧ r.2.mem ((c.tc : Thread Cert.ColumnsRefIdeal.nD Cert.ColumnsRefIdeal.τ).loc Cert.ColumnsRefIdeal.main_arg0) = m' ((c.tc : Thread Cert.ColumnsRefIdeal.nD Cert.ColumnsRefIdeal.τ).loc Cert.ColumnsRefIdeal.main_arg0))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hMods : Cert.Mods.Facts) (hModsIdeal : Cert.ModsIdeal.Facts) (hModsRefIdeal : Cert.ModsRefIdeal.Facts) (hColumns : Cert.Columns.Facts) (hColumnsIdeal : Cert.ColumnsIdeal.Facts) (hColumnsRefIdeal : Cert.ColumnsRefIdeal.Facts) (hPre_finite : Cert.Pre_finite.Facts) (hPre_numbers : Cert.Pre_numbers.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeIdeal_pre_numbers (hMergeIdeal := hMergeIdeal) (hPre_numbers := hPre_numbers)
    ∧ quiescent_MergeRefIdeal (hMergeRefIdeal := hMergeRefIdeal)
    ∧ quiescent_MergeRefIdeal_pre_numbers (hMergeRefIdeal := hMergeRefIdeal) (hPre_numbers := hPre_numbers)
    ∧ quiescent_Inproj (hInproj := hInproj)
    ∧ quiescent_InprojIdeal (hInprojIdeal := hInprojIdeal)
    ∧ quiescent_InprojRefIdeal (hInprojRefIdeal := hInprojRefIdeal)
    ∧ quiescent_Mods (hMods := hMods)
    ∧ quiescent_ModsIdeal (hModsIdeal := hModsIdeal)
    ∧ quiescent_ModsRefIdeal (hModsRefIdeal := hModsRefIdeal)
    ∧ quiescent_Columns (hColumns := hColumns)
    ∧ quiescent_ColumnsIdeal (hColumnsIdeal := hColumnsIdeal)
    ∧ quiescent_ColumnsRefIdeal (hColumnsRefIdeal := hColumnsRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal_pre_numbers (hMergeIdeal := hMergeIdeal) (hMergeRefIdeal := hMergeRefIdeal) (hPre_numbers := hPre_numbers)
    ∧ preserves_Inproj_InprojIdeal
    ∧ algebraic_InprojIdeal_InprojRefIdeal (hInprojIdeal := hInprojIdeal) (hInprojRefIdeal := hInprojRefIdeal)
    ∧ preserves_Mods_ModsIdeal
    ∧ algebraic_ModsIdeal_ModsRefIdeal (hModsIdeal := hModsIdeal) (hModsRefIdeal := hModsRefIdeal)
    ∧ preserves_Columns_ColumnsIdeal
    ∧ algebraic_ColumnsIdeal_ColumnsRefIdeal (hColumnsIdeal := hColumnsIdeal) (hColumnsRefIdeal := hColumnsRefIdeal)
-- ==== Pre_finite.lean ====
abbrev S4x4x4096x128 : Shape := ⟨4, ![4, 4, 4096, 128]⟩
abbrev S4x4x256x128 : Shape := ⟨4, ![4, 4, 256, 128]⟩
abbrev S4x256x256 : Shape := ⟨3, ![4, 256, 256]⟩
abbrev S4x256x4096 : Shape := ⟨3, ![4, 256, 4096]⟩
abbrev S4x4x8448x128 : Shape := ⟨4, ![4, 4, 8448, 128]⟩
abbrev S_ : Shape := ⟨0, ![]⟩

class Facts : Prop where
  concatenates_S4x4x4096x128_S4x4x256x128_S4x4x4096x128_S4x4x8448x128_d2 : Shape.Concatenates [S4x4x4096x128, S4x4x256x128, S4x4x4096x128] S4x4x8448x128 2
  bitsLt_bf16_f32 : FTy.bits .bf16 < FTy.bits .f32
  bcast_S_S4x4x8448x128 : S_.BroadcastsInDim S4x4x8448x128 (![] : Fin 0 → Fin S4x4x8448x128.rank)

variable [Facts]

def fn {F : FTy → Type} [FloatOps F] (main_arg0 : FVec F S4x4x4096x128 .bf16) (main_arg1 : FVec F S4x4x256x128 .bf16) (main_arg2 : FVec F S4x256x256 .bf16) (main_arg3 : FVec F S4x4x4096x128 .bf16) (main_arg4 : FVec F S4x256x4096 .bf16) : IVec S4x4x8448x128 1 :=
  let main_v0 : FVec F S4x4x8448x128 .bf16 := concatenate S4x4x8448x128 2 [⟨S4x4x4096x128, main_arg0⟩, ⟨S4x4x256x128, main_arg1⟩, ⟨S4x4x4096x128, main_arg3⟩] concatenates_S4x4x4096x128_S4x4x256x128_S4x4x4096x128_S4x4x8448x128_d2
  let main_v1 : FVec F S4x4x8448x128 .f32 := (extf .f32 · bitsLt_bf16_f32) main_v0
  let main_v2 : FVec F S4x4x8448x128 .f32 := Host.absf main_v1
  let main_cst : FVec F S_ .f32 := constant S_ .f32 0x7F800000#32
  let main_v3 : FVec F S4x4x8448x128 .f32 := broadcastInDim S4x4x8448x128 ![] bcast_S_S4x4x8448x128 main_cst
  let main_v4 : IVec S4x4x8448x128 1 := cmpf .olt main_v2 main_v3
  main_v4
-- ==== Pre_numbers.lean ====
abbrev S4x4096x1024 : Shape := ⟨3, ![4, 4096, 1024]⟩
abbrev S4x4096x256 : Shape := ⟨3, ![4, 4096, 256]⟩
abbrev S4x4096x2816 : Shape := ⟨3, ![4, 4096, 2816]⟩
abbrev S4x1x6144 : Shape := ⟨3, ![4, 1, 6144]⟩
abbrev S2x1024 : Shape := ⟨2, ![2, 1024]⟩
abbrev S2x1024x4096 : Shape := ⟨3, ![2, 1024, 4096]⟩
abbrev S2x64 : Shape := ⟨2, ![2, 64]⟩
abbrev S2x4x256x1024 : Shape := ⟨4, ![2, 4, 256, 1024]⟩
abbrev S2x1024x1024 : Shape := ⟨3, ![2, 1024, 1024]⟩
abbrev S_ : Shape := ⟨0, ![]⟩

class Facts : Prop where
  bcast_S_S4x4096x256 : S_.BroadcastsInDim S4x4096x256 (![] : Fin 0 → Fin S4x4096x256.rank)

variable [Facts]

def fn {F : FTy → Type} [FloatOps F] (main_arg0 : FVec F S4x4096x1024 .f32) (main_arg1 : FVec F S4x4096x256 .bf16) (main_arg2 : FVec F S4x4096x256 .bf16) (main_arg3 : FVec F S4x4096x256 .bf16) (main_arg4 : FVec F S4x4096x256 .f32) (main_arg5 : FVec F S4x4096x256 .f32) (main_arg6 : FVec F S4x4096x256 .f32) (main_arg7 : FVec F S4x4096x2816 .f32) (main_arg8 : FVec F S4x1x6144 .f32) (main_arg9 : FVec F S2x1024 .f32) (main_arg10 : FVec F S2x1024x4096 .bf16) (main_arg11 : FVec F S2x64 .f32) (main_arg12 : FVec F S2x4x256x1024 .f32) (main_arg13 : FVec F S2x1024x1024 .f32) : IVec S4x4096x256 1 :=
  let main_v0 : FVec F S4x4096x256 .f32 := addf main_arg4 main_arg5
  let main_v1 : FVec F S4x4096x256 .f32 := addf main_v0 main_arg6
  let main_v2 : FVec F S4x4096x256 .f32 := Host.absf main_v1
  let main_cst : FVec F S_ .f32 := constant S_ .f32 0x7F800000#32
  let main_v3 : FVec F S4x4096x256 .f32 := broadcastInDim S4x4096x256 ![] bcast_S_S4x4096x256 main_cst
  let main_v4 : IVec S4x4096x256 1 := cmpf .olt main_v2 main_v3
  main_v4
-- ==== Attn.lean ====
abbrev S4x4x4096x128 : Shape := ⟨4, ![4, 4, 4096, 128]⟩
abbrev S4x4x256x128 : Shape := ⟨4, ![4, 4, 256, 128]⟩
abbrev S4x256x256 : Shape := ⟨3, ![4, 256, 256]⟩
abbrev S4x256x4096 : Shape := ⟨3, ![4, 256, 4096]⟩
abbrev S4x4096x256 : Shape := ⟨3, ![4, 4096, 256]⟩
abbrev S1x4x512x128 : Shape := ⟨4, ![1, 4, 512, 128]⟩
abbrev S1x4x256x128 : Shape := ⟨4, ![1, 4, 256, 128]⟩
abbrev S1x256x256 : Shape := ⟨3, ![1, 256, 256]⟩
abbrev S1x4x4096x128 : Shape := ⟨4, ![1, 4, 4096, 128]⟩
abbrev S1x256x4096 : Shape := ⟨3, ![1, 256, 4096]⟩
abbrev S1x512x256 : Shape := ⟨3, ![1, 512, 256]⟩
abbrev S4x512x512 : Shape := ⟨3, ![4, 512, 512]⟩
abbrev S1x1x512x128 : Shape := ⟨4, ![1, 1, 512, 128]⟩
abbrev S512x128 : Shape := ⟨2, ![512, 128]⟩
abbrev S1x512 : Shape := ⟨2, ![1, 512]⟩
abbrev S80x512 : Shape := ⟨2, ![80, 512]⟩
abbrev S1x1x256x128 : Shape := ⟨4, ![1, 1, 256, 128]⟩
abbrev S256x128 : Shape := ⟨2, ![256, 128]⟩
abbrev S256x512 : Shape := ⟨2, ![256, 512]⟩
abbrev S1x256x512 : Shape := ⟨3, ![1, 256, 512]⟩
abbrev S512x512 : Shape := ⟨2, ![512, 512]⟩
abbrev S1x512x512 : Shape := ⟨3, ![1, 512, 512]⟩
abbrev S16x256 : Shape := ⟨2, ![16, 256]⟩
abbrev S512 : Shape := ⟨1, ![512]⟩
abbrev S1x64x256 : Shape := ⟨3, ![1, 64, 256]⟩
abbrev S64x256 : Shape := ⟨2, ![64, 256]⟩
abbrev S80x256 : Shape := ⟨2, ![80, 256]⟩
abbrev S16x512 : Shape := ⟨2, ![16, 512]⟩
abbrev S1x64x512 : Shape := ⟨3, ![1, 64, 512]⟩
abbrev S64x512 : Shape := ⟨2, ![64, 512]⟩
abbrev S512x256 : Shape := ⟨2, ![512, 256]⟩

abbrev nBuf : Space → Nat
  | .hbm => 6
  | .vmem => 14
  | .smem => 0
  | _ => 0

abbrev bufTy : (tb : Table) → Fin (tcTables nBuf tb) → BufTy
  | .hbm, ⟨0, _⟩ => ⟨S4x4x4096x128, .bf16⟩
  | .hbm, ⟨1, _⟩ => ⟨S4x4x256x128, .bf16⟩
  | .hbm, ⟨2, _⟩ => ⟨S4x256x256, .bf16⟩
  | .hbm, ⟨3, _⟩ => ⟨S4x4x4096x128, .bf16⟩
  | .hbm, ⟨4, _⟩ => ⟨S4x256x4096, .bf16⟩
  | .hbm, ⟨5, _⟩ => ⟨S4x4096x256, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x4x256x128, .bf16⟩
  | .local _ .vmem, ⟨3, _⟩ => ⟨S1x4x256x128, .bf16⟩
  | .local _ .vmem, ⟨4, _⟩ => ⟨S1x256x256, .bf16⟩
  | .local _ .vmem, ⟨5, _⟩ => ⟨S1x256x256, .bf16⟩
  | .local _ .vmem, ⟨6, _⟩ => ⟨S1x4x4096x128, .bf16⟩
  | .local _ .vmem, ⟨7, _⟩ => ⟨S1x4x4096x128, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x512x256, .bf16⟩
  | .local _ .vmem, ⟨11, _⟩ => ⟨S1x512x256, .bf16⟩
  | .local _ .vmem, ⟨12, _⟩ => ⟨S4x512x512, .f32⟩
  | .local _ .vmem, ⟨13, _⟩ => ⟨S4x512x512, .f32⟩
  | _, _ => ⟨S4x4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
def k0_mult2 : BitVec 32 :=
  let c0_i32_47 : BitVec 32 := 0#32
  c0_i32_47
def k0_mult3 : BitVec 32 :=
  let c0_i32_76 : BitVec 32 := 0#32
  c0_i32_76
@[reducible] def k0_t1_loop : Scf.Loop 32 :=
  let c0_i32_103 : BitVec 32 := 0#32
  let c3_i32 : BitVec 32 := 3#32
  let v152 : BitVec 32 := Scalar.addi c0_i32_103 c3_i32
  let c1_i32 : BitVec 32 := 1#32
  ⟨c0_i32_103, v152, c1_i32⟩
def k0_mult4 (k0_t1 : Fin k0_t1_loop.trips) : BitVec 32 :=
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c1_i32_195 : BitVec 32 := 1#32
  let v362 : BitVec 32 := Scalar.addi v361 c1_i32_195
  let c512_i32 : BitVec 32 := 512#32
  let v363 : BitVec 32 := Scalar.muli v362 c512_i32
  v363
def k0_off1 (k0_t1 : Fin k0_t1_loop.trips) (c1_i32_195 : BitVec 32) : Fin 4 → Nat :=
  let c0_196 : Index := 0#32
  let c0_197 : Index := 0#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let v362 : BitVec 32 := Scalar.addi v361 c1_i32_195
  let c512_i32 : BitVec 32 := 512#32
  let v363 : BitVec 32 := Scalar.muli v362 c512_i32
  let v364 : BitVec 32 := v363
  let v365 : Index := Scalar.indexCast v364
  let c0_198 : Index := 0#32
  ![0, 0, v365.toNat, 0]
def k0_off2 (k0_t1 : Fin k0_t1_loop.trips) (c1_i32_195 : BitVec 32) : Fin 4 → Nat :=
  let c0_203 : Index := 0#32
  let c1_204 : Index := 1#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let v362 : BitVec 32 := Scalar.addi v361 c1_i32_195
  let c512_i32 : BitVec 32 := 512#32
  let v363 : BitVec 32 := Scalar.muli v362 c512_i32
  let v364 : BitVec 32 := v363
  let v372 : Index := Scalar.indexCast v364
  let c0_205 : Index := 0#32
  ![0, 1, v372.toNat, 0]
def k0_off3 (k0_t1 : Fin k0_t1_loop.trips) (c1_i32_195 : BitVec 32) : Fin 4 → Nat :=
  let c0_210 : Index := 0#32
  let c2_211 : Index := 2#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let v362 : BitVec 32 := Scalar.addi v361 c1_i32_195
  let c512_i32 : BitVec 32 := 512#32
  let v363 : BitVec 32 := Scalar.muli v362 c512_i32
  let v364 : BitVec 32 := v363
  let v379 : Index := Scalar.indexCast v364
  let c0_212 : Index := 0#32
  ![0, 2, v379.toNat, 0]
def k0_off4 (k0_t1 : Fin k0_t1_loop.trips) (c1_i32_195 : BitVec 32) : Fin 4 → Nat :=
  let c0_217 : Index := 0#32
  let c3_218 : Index := 3#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let v362 : BitVec 32 := Scalar.addi v361 c1_i32_195
  let c512_i32 : BitVec 32 := 512#32
  let v363 : BitVec 32 := Scalar.muli v362 c512_i32
  let v364 : BitVec 32 := v363
  let v386 : Index := Scalar.indexCast v364
  let c0_219 : Index := 0#32
  ![0, 3, v386.toNat, 0]
def k0_mult5 (k0_t1 : Fin k0_t1_loop.trips) : BitVec 32 :=
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c512_i32_224 : BitVec 32 := 512#32
  let v393 : BitVec 32 := Scalar.muli v361 c512_i32_224
  v393
def k0_off5 (k0_t1 : Fin k0_t1_loop.trips) : Fin 3 → Nat :=
  let c0_230 : Index := 0#32
  let c0_231 : Index := 0#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c512_i32_224 : BitVec 32 := 512#32
  let v393 : BitVec 32 := Scalar.muli v361 c512_i32_224
  let v394 : BitVec 32 := v393
  let v407 : Index := Scalar.indexCast v394
  ![0, 0, v407.toNat]
def k0_off6 (k0_t1 : Fin k0_t1_loop.trips) : Fin 3 → Nat :=
  let c0_237 : Index := 0#32
  let c64_238 : Index := 64#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c512_i32_224 : BitVec 32 := 512#32
  let v393 : BitVec 32 := Scalar.muli v361 c512_i32_224
  let v394 : BitVec 32 := v393
  let v426 : Index := Scalar.indexCast v394
  ![0, 64, v426.toNat]
def k0_off7 (k0_t1 : Fin k0_t1_loop.trips) : Fin 3 → Nat :=
  let c0_244 : Index := 0#32
  let c128_245 : Index := 128#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c512_i32_224 : BitVec 32 := 512#32
  let v393 : BitVec 32 := Scalar.muli v361 c512_i32_224
  let v394 : BitVec 32 := v393
  let v445 : Index := Scalar.indexCast v394
  ![0, 128, v445.toNat]
def k0_off8 (k0_t1 : Fin k0_t1_loop.trips) : Fin 3 → Nat :=
  let c0_251 : Index := 0#32
  let c192_252 : Index := 192#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c512_i32_224 : BitVec 32 := 512#32
  let v393 : BitVec 32 := Scalar.muli v361 c512_i32_224
  let v394 : BitVec 32 := v393
  let v464 : Index := Scalar.indexCast v394
  ![0, 192, v464.toNat]
def k0_mult6 (k0_t1 : Fin k0_t1_loop.trips) : BitVec 32 :=
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c2_i32_254 : BitVec 32 := 2#32
  let v472 : BitVec 32 := Scalar.addi v361 c2_i32_254
  let c512_i32_255 : BitVec 32 := 512#32
  let v473 : BitVec 32 := Scalar.muli v472 c512_i32_255
  v473
def k0_mult7 (k0_t1 : Fin k0_t1_loop.trips) : BitVec 32 :=
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c1_i32_284 : BitVec 32 := 1#32
  let v503 : BitVec 32 := Scalar.addi v361 c1_i32_284
  let c512_i32_285 : BitVec 32 := 512#32
  let v504 : BitVec 32 := Scalar.muli v503 c512_i32_285
  v504
def k0_off9 (k0_t1 : Fin k0_t1_loop.trips) : Fin 3 → Nat :=
  let c0_291 : Index := 0#32
  let c0_292 : Index := 0#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c1_i32_284 : BitVec 32 := 1#32
  let v503 : BitVec 32 := Scalar.addi v361 c1_i32_284
  let c512_i32_285 : BitVec 32 := 512#32
  let v504 : BitVec 32 := Scalar.muli v503 c512_i32_285
  let v505 : BitVec 32 := v504
  let v518 : Index := Scalar.indexCast v505
  ![0, 0, v518.toNat]
def k0_off10 (k0_t1 : Fin k0_t1_loop.trips) : Fin 3 → Nat :=
  let c0_298 : Index := 0#32
  let c64_299 : Index := 64#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c1_i32_284 : BitVec 32 := 1#32
  let v503 : BitVec 32 := Scalar.addi v361 c1_i32_284
  let c512_i32_285 : BitVec 32 := 512#32
  let v504 : BitVec 32 := Scalar.muli v503 c512_i32_285
  let v505 : BitVec 32 := v504
  let v537 : Index := Scalar.indexCast v505
  ![0, 64, v537.toNat]
def k0_off11 (k0_t1 : Fin k0_t1_loop.trips) : Fin 3 → Nat :=
  let c0_305 : Index := 0#32
  let c128_306 : Index := 128#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c1_i32_284 : BitVec 32 := 1#32
  let v503 : BitVec 32 := Scalar.addi v361 c1_i32_284
  let c512_i32_285 : BitVec 32 := 512#32
  let v504 : BitVec 32 := Scalar.muli v503 c512_i32_285
  let v505 : BitVec 32 := v504
  let v556 : Index := Scalar.indexCast v505
  ![0, 128, v556.toNat]
def k0_off12 (k0_t1 : Fin k0_t1_loop.trips) : Fin 3 → Nat :=
  let c0_312 : Index := 0#32
  let c192_313 : Index := 192#32
  let c2_i32 : BitVec 32 := 2#32
  let c0_i32_103 : BitVec 32 := 0#32
  let c1_i32 : BitVec 32 := 1#32
  let arg10 : BitVec 32 := Scf.iv c0_i32_103 c1_i32 k0_t1
  let v361 : BitVec 32 := Scalar.muli c2_i32 arg10
  let c1_i32_284 : BitVec 32 := 1#32
  let v503 : BitVec 32 := Scalar.addi v361 c1_i32_284
  let c512_i32_285 : BitVec 32 := 512#32
  let v504 : BitVec 32 := Scalar.muli v503 c512_i32_285
  let v505 : BitVec 32 := v504
  let v575 : Index := Scalar.indexCast v505
  ![0, 192, v575.toNat]
def k0_mult8 : BitVec 32 :=
  let c3584_i32 : BitVec 32 := 3584#32
  c3584_i32
def k0_mult9 : BitVec 32 :=
  let c3072_i32 : BitVec 32 := 3072#32
  c3072_i32
def k0_mult10 : BitVec 32 :=
  let c3584_i32_162 : BitVec 32 := 3584#32
  c3584_i32_162
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S4x4x4096x128 : Shape := ⟨4, ![4, 4, 4096, 128]⟩
abbrev S4x4x256x128 : Shape := ⟨4, ![4, 4, 256, 128]⟩
abbrev S4x256x256 : Shape := ⟨3, ![4, 256, 256]⟩
abbrev S4x256x4096 : Shape := ⟨3, ![4, 256, 4096]⟩
abbrev S4x4x4352x128 : Shape := ⟨4, ![4, 4, 4352, 128]⟩
abbrev S4x256x4352 : Shape := ⟨3, ![4, 256, 4352]⟩
abbrev S4x4x64x4352 : Shape := ⟨4, ![4, 4, 64, 4352]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x4x4096x64 : Shape := ⟨4, ![4, 4, 4096, 64]⟩
abbrev S4x4096x4x64 : Shape := ⟨4, ![4, 4096, 4, 64]⟩
abbrev S4x4096x256 : Shape := ⟨3, ![4, 4096, 256]⟩

abbrev nBuf : Space → Nat
  | .hbm => 34
  | .vmem => 0
  | .smem => 0
  | _ => 0

abbrev bufTy : (tb : Table) → Fin (tcTables nBuf tb) → BufTy
  | .hbm, ⟨0, _⟩ => ⟨S4x4x4096x128, .bf16⟩
  | .hbm, ⟨1, _⟩ => ⟨S4x4x256x128, .bf16⟩
  | .hbm, ⟨2, _⟩ => ⟨S4x256x256, .bf16⟩
  | .hbm, ⟨3, _⟩ => ⟨S4x4x4096x128, .bf16⟩
  | .hbm, ⟨4, _⟩ => ⟨S4x256x4096, .bf16⟩
  | .hbm, ⟨5, _⟩ => ⟨S4x4x4352x128, .bf16⟩
  | .hbm, ⟨6, _⟩ => ⟨S4x4x4352x128, .f32⟩
  | .hbm, ⟨7, _⟩ => ⟨S4x256x4352, .bf16⟩
  | .hbm, ⟨8, _⟩ => ⟨S4x256x4352, .f32⟩
  | .hbm, ⟨9, _⟩ => ⟨S4x4x64x4352, .f32⟩
  | .hbm, ⟨10, _⟩ => ⟨S4x4x4096x128, .f32⟩
  | .hbm, ⟨11, _⟩ => ⟨S4x4x4096x4352, .f32⟩
  | .hbm, ⟨12, _⟩ => ⟨S_, .f32⟩
  | .hbm, ⟨13, _⟩ => ⟨S_, .f32⟩
  | .hbm, ⟨14, _⟩ => ⟨S4x4x4096x4352, .f32⟩
  | .hbm, ⟨15, _⟩ => ⟨S4x4x4096x4352, .f32⟩
  | .hbm, ⟨16, _⟩ => ⟨S_, .f32⟩
  | .hbm, ⟨17, _⟩ => ⟨S4x4x4096, .f32⟩
  | .hbm, ⟨18, _⟩ => ⟨S_, .f32⟩
  | .hbm, ⟨19, _⟩ => ⟨S4x4x4096, .f32⟩
  | .hbm, ⟨20, _⟩ => ⟨S4x4x4096, .f32⟩
  | .hbm, ⟨21, _⟩ => ⟨S4x4x4096x1, .f32⟩
  | .hbm, ⟨22, _⟩ => ⟨S4x4x4096x4352, .f32⟩
  | .hbm, ⟨23, _⟩ => ⟨S4x4x4096x4352, .f32⟩
  | .hbm, ⟨24, _⟩ => ⟨S4x4x4096x4352, .f32⟩
  | .hbm, ⟨25, _⟩ => ⟨S_, .f32⟩
  | .hbm, ⟨26, _⟩ => ⟨S4x4x4096, .f32⟩
  | .hbm, ⟨27, _⟩ => ⟨S4x4x4096x1, .f32⟩
  | .hbm, ⟨28, _⟩ => ⟨S4x4x4096x4352, .f32⟩
  | .hbm, ⟨29, _⟩ => ⟨S4x4x4096x4352, .f32⟩
  | .hbm, ⟨30, _⟩ => ⟨S4x4x4096x64, .f32⟩
  | .hbm, ⟨31, _⟩ => ⟨S4x4096x4x64, .f32⟩
  | .hbm, ⟨32, _⟩ => ⟨S4x4096x256, .f32⟩
  | .hbm, ⟨33, _⟩ => ⟨S4x4096x256, .bf16⟩
  | _, _ => ⟨S4x4x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Ffn.lean ====
abbrev S4x4096x1024 : Shape := ⟨3, ![4, 4096, 1024]⟩
abbrev S4x1x6144 : Shape := ⟨3, ![4, 1, 6144]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S1x512x1024 : Shape := ⟨3, ![1, 512, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S512x2048 : Shape := ⟨2, ![512, 2048]⟩
abbrev S1x2048x1024 : Shape := ⟨3, ![1, 2048, 1024]⟩
abbrev S2048x1024 : Shape := ⟨2, ![2048, 1024]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S2x1024x4096, .bf16⟩
  | .hbm, ⟨6, _⟩ => ⟨S2x4096x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x4096, .bf16⟩
  | .local _ .vmem, ⟨8, _⟩ => ⟨S1x4096x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S4x4096x1024 : Shape := ⟨3, ![4, 4096, 1024]⟩
abbrev S4x1x6144 : Shape := ⟨3, ![4, 1, 6144]⟩
abbrev S2x1024 : Shape := ⟨2, ![2, 1024]⟩
abbrev S2x1024x4096 : Shape := ⟨3, ![2, 1024, 4096]⟩
abbrev S2x4096x1024 : Shape := ⟨3, ![2, 4096, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1024 : Shape := ⟨2, ![1, 1024]⟩
abbrev S1024 : Shape := ⟨1, ![1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S1x1024x4096, .f32⟩
  | .hbm, ⟨37, _⟩ => ⟨S1024x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S1x4096x1024, .f32⟩
  | .hbm, ⟨44, _⟩ => ⟨S4096x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_cst : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Merge.lean ====
abbrev S4x4096x1024 : Shape := ⟨3, ![4, 4096, 1024]⟩
abbrev S4x4096x256 : Shape := ⟨3, ![4, 4096, 256]⟩
abbrev S4x4096x2816 : Shape := ⟨3, ![4, 4096, 2816]⟩
abbrev S4x1x6144 : Shape := ⟨3, ![4, 1, 6144]⟩
abbrev S2x1024 : Shape := ⟨2, ![2, 1024]⟩
abbrev S2x1024x4096 : Shape := ⟨3, ![2, 1024, 4096]⟩
abbrev S2x64 : Shape := ⟨2, ![2, 64]⟩
abbrev S2x4x256x1024 : Shape := ⟨4, ![2, 4, 256, 1024]⟩
abbrev S2x1024x1024 : Shape := ⟨3, ![2, 1024, 1024]⟩
abbrev S256x256 : Shape := ⟨2, ![256, 256]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S4x64 : Shape := ⟨2, ![4, 64]⟩
abbrev S256 : Shape := ⟨1, ![256]⟩
abbrev S1x256 : Shape := ⟨2, ![1, 256]⟩
abbrev S1x512x1024 : Shape := ⟨3, ![1, 512, 1024]⟩
abbrev S1x512x256 : Shape := ⟨3, ![1, 512, 256]⟩
abbrev S1x1x1024 : Shape := ⟨3, ![1, 1, 1024]⟩
abbrev S1x1024x4096 : Shape := ⟨3, ![1, 1024, 4096]⟩
abbrev S1x4x256x1024 : Shape := ⟨4, ![1, 4, 256, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1024x1024 : Shape := ⟨2, ![1024, 1024]⟩
abbrev S1x1x256x1024 : Shape := ⟨4, ![1, 1, 256, 1024]⟩
abbrev S256x1024 : Shape := ⟨2, ![256, 1024]⟩

abbrev nBuf : Space → Nat
  | .hbm => 27
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x256, .bf16⟩
  | .hbm, ⟨3, _⟩ => ⟨S4x4096x256, .bf16⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S4x4096x2816, .f32⟩
  | .hbm, ⟨8, _⟩ => ⟨S4x1x6144, .f32⟩
  | .hbm, ⟨9, _⟩ => ⟨S2x1024, .f32⟩
  | .hbm, ⟨10, _⟩ => ⟨S2x1024x4096, .bf16⟩
  | .hbm, ⟨11, _⟩ => ⟨S2x64, .f32⟩
  | .hbm, ⟨12, _⟩ => ⟨S2x4x256x1024, .f32⟩
  | .hbm, ⟨13, _⟩ => ⟨S2x1024x1024, .f32⟩
  | .hbm, ⟨14, _⟩ => ⟨S256x256, .bf16⟩
  | .hbm, ⟨15, _⟩ => ⟨S2x4x256x1024, .bf16⟩
  | .hbm, ⟨16, _⟩ => ⟨S2x1024x1024, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S4x64, .f32⟩
  | .hbm, ⟨24, _⟩ => ⟨S256, .f32⟩
  | .hbm, ⟨25, _⟩ => ⟨S1x256, .f32⟩
  | .hbm, ⟨26, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1024x4096, .bf16⟩
  | .local _ .vmem, ⟨22, _⟩ => ⟨S1x256, .f32⟩
  | .local _ .vmem, ⟨23, _⟩ => ⟨S256x256, .bf16⟩
  | .local _ .vmem, ⟨24, _⟩ => ⟨S1x4x256x1024, .bf16⟩
  | .local _ .vmem, ⟨25, _⟩ => ⟨S1x1024x1024, .bf16⟩
  | .local _ .vmem, ⟨26, _⟩ => ⟨S1x1x1024, .f32⟩
  | .local _ .vmem, ⟨27, _⟩ => ⟨S1x1x1024, .f32⟩
  | .local _ .vmem, ⟨28, _⟩ => ⟨S1x512x1024, .f32⟩
  | .local _ .vmem, ⟨29, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x4x256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MergeRefIdeal.lean ====
abbrev S4x4096x1024 : Shape := ⟨3, ![4, 4096, 1024]⟩
abbrev S4x4096x256 : Shape := ⟨3, ![4, 4096, 256]⟩
abbrev S4x4096x2816 : Shape := ⟨3, ![4, 4096, 2816]⟩
abbrev S4x1x6144 : Shape := ⟨3, ![4, 1, 6144]⟩
abbrev S2x1024 : Shape := ⟨2, ![2, 1024]⟩
abbrev S2x1024x4096 : Shape := ⟨3, ![2, 1024, 4096]⟩
abbrev S2x64 : Shape := ⟨2, ![2, 64]⟩
abbrev S2x4x256x1024 : Shape := ⟨4, ![2, 4, 256, 1024]⟩
abbrev S2x1024x1024 : Shape := ⟨3, ![2, 1024, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1024 : Shape := ⟨2, ![1, 1024]⟩
abbrev S1024 : Shape := ⟨1, ![1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S4x4096x4x1024 : Shape := ⟨4, ![4, 4096, 4, 1024]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S1x64 : Shape := ⟨2, ![1, 64]⟩
abbrev S64 : Shape := ⟨1, ![64]⟩
abbrev S1x1x1x64 : Shape := ⟨4, ![1, 1, 1, 64]⟩
abbrev S4x4096x1x256 : Shape := ⟨4, ![4, 4096, 1, 256]⟩
abbrev S4x4096x4x256 : Shape := ⟨4, ![4, 4096, 4, 256]⟩
abbrev S1x4x256x1024 : Shape := ⟨4, ![1, 4, 256, 1024]⟩
abbrev S4x256x1024 : Shape := ⟨3, ![4, 256, 1024]⟩
abbrev S4x1024x4x4096 : Shape := ⟨4, ![4, 1024, 4, 4096]⟩
abbrev S1x1024x1024 : Shape := ⟨3, ![1, 1024, 1024]⟩
abbrev S1024x1024 : Shape := ⟨2, ![1024, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x256, .bf16⟩
  | .hbm, ⟨3, _⟩ => ⟨S4x4096x256, .bf16⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S4x4096x2816, .f32⟩
  | .hbm, ⟨8, _⟩ => ⟨S4x1x6144, .f32⟩
  | .hbm, ⟨9, _⟩ => ⟨S2x1024, .f32⟩
  | .hbm, ⟨10, _⟩ => ⟨S2x1024x4096, .bf16⟩
  | .hbm, ⟨11, _⟩ => ⟨S2x64, .f32⟩
  | .hbm, ⟨12, _⟩ => ⟨S2x4x256x1024, .f32⟩
  | .hbm, ⟨13, _⟩ => ⟨S2x1024x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x1024, .f32⟩
  | .hbm, ⟨32, _⟩ => ⟨S4x4096x1024, .f32⟩
  | .hbm, ⟨33, _⟩ => ⟨S1x1024, .f32⟩
  | .hbm, ⟨34, _⟩ => ⟨S1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S1x1024x4096, .bf16⟩
  | .hbm, ⟨46, _⟩ => ⟨S1024x4096, .bf16⟩
  | .hbm, ⟨47, _⟩ => ⟨S1024x4096, .f32⟩
  | .hbm, ⟨48, _⟩ => ⟨S4x4096x4096, .f32⟩
  | .hbm, ⟨49, _⟩ => ⟨S4x4096x4x1024, .f32⟩
  | .hbm, ⟨50, _⟩ => ⟨S4x4096x4x1024, .f32⟩
  | .hbm, ⟨51, _⟩ => ⟨S4x4096x4x1024, .f32⟩
  | .hbm, ⟨52, _⟩ => ⟨S_, .f32⟩
  | .hbm, ⟨53, _⟩ => ⟨S4x4096x4x1024, .f32⟩
  | .hbm, ⟨54, _⟩ => ⟨S4x4096x4x1024, .f32⟩
  | .hbm, ⟨55, _⟩ => ⟨S_, .f32⟩
  | .hbm, ⟨56, _⟩ => ⟨S4x4096x4x1024, .f32⟩
  | .hbm, ⟨57, _⟩ => ⟨S4x4096x4x1024, .f32⟩
  | .hbm, ⟨58, _⟩ => ⟨S4x4096x256, .f32⟩
  | .hbm, ⟨59, _⟩ => ⟨S4x4096x256, .f32⟩
  | .hbm, ⟨60, _⟩ => ⟨S4x4096x4x64, .f32⟩
  | .hbm, ⟨61, _⟩ => ⟨S4x4096x4x64, .f32⟩
  | .hbm, ⟨62, _⟩ => ⟨S_, .f32⟩
  | .hbm, ⟨63, _⟩ => ⟨S4x4096x4, .f32⟩
  | .hbm, ⟨64, _⟩ => ⟨S4x4096x4x1, .f32⟩
  | .hbm, ⟨65, _⟩ => ⟨S_, .f32⟩
  | .hbm, ⟨66, _⟩ => ⟨S4x4096x4x1, .f32⟩
  | .hbm, ⟨67, _⟩ => ⟨S4x4096x4x1, .f32⟩
  | .hbm, ⟨68, _⟩ => ⟨S_, .f32⟩
  | .hbm, ⟨69, _⟩ => ⟨S4x4096x4x1, .f32⟩
  | .hbm, ⟨70, _⟩ => ⟨S4x4096x4x1, .f32⟩
  | .hbm, ⟨71, _⟩ => ⟨S4x4096x4x1, .f32⟩
  | .hbm, ⟨72, _⟩ => ⟨S4x4096x4x64, .f32⟩
  | .hbm, ⟨73, _⟩ => ⟨S4x4096x4x64, .f32⟩
  | .hbm, ⟨74, _⟩ => ⟨S1x64, .f32⟩
  | .hbm, ⟨75, _⟩ => ⟨S64, .f32⟩
  | .hbm, ⟨76, _⟩ => ⟨S1x1x1x64, .f32⟩
  | .hbm, ⟨77, _⟩ => ⟨S4x4096x4x64, .f32⟩
  | .hbm, ⟨78, _⟩ => ⟨S4x4096x4x64, .f32⟩
  | .hbm, ⟨79, _⟩ => ⟨S4x4096x256, .f32⟩
  | .hbm, ⟨80, _⟩ => ⟨S4x4096x256, .f32⟩
  | .hbm, ⟨81, _⟩ => ⟨S4x4096x256, .f32⟩
  | .hbm, ⟨82, _⟩ => ⟨S4x4096x256, .f32⟩
  | .hbm, ⟨83, _⟩ => ⟨S_, .f32⟩
  | .hbm, ⟨84, _⟩ => ⟨S4x4096x256, .f32⟩
  | .hbm, ⟨85, _⟩ => ⟨S4x4096x256, .f32⟩
  | .hbm, ⟨86, _⟩ => ⟨S_, .f32⟩
  | .hbm, ⟨87, _⟩ => ⟨S4x4096x256, .f32⟩
  | .hbm, ⟨88, _⟩ => ⟨S4x4096x256, .f32⟩
  | .hbm, ⟨89, _⟩ => ⟨S4x4096x256, .f32⟩
  | .hbm, ⟨90, _⟩ => ⟨S4x4096x256, .f32⟩
  | .hbm, ⟨91, _⟩ => ⟨S4x4096x256, .f32⟩
  | .hbm, ⟨92, _⟩ => ⟨S4x4096x256, .f32⟩
  | .hbm, ⟨93, _⟩ => ⟨S4x4096x1x256, .f32⟩
  | .hbm, ⟨94, _⟩ => ⟨S4x4096x1x256, .f32⟩
  | .hbm, ⟨95, _⟩ => ⟨S4x4096x1x256, .f32⟩
  | .hbm, ⟨96, _⟩ => ⟨S4x4096x1x256, .f32⟩
  | .hbm, ⟨97, _⟩ => ⟨S4x4096x4x256, .f32⟩
  | .hbm, ⟨98, _⟩ => ⟨S1x4x256x1024, .f32⟩
  | .hbm, ⟨99, _⟩ => ⟨S4x256x1024, .f32⟩
  | .hbm, ⟨100, _⟩ => ⟨S4x1024x4x4096, .f32⟩
  | .hbm, ⟨101, _⟩ => ⟨S4x4096x4x1024, .f32⟩
  | .hbm, ⟨102, _⟩ => ⟨S4x4096x4x1024, .f32⟩
  | .hbm, ⟨103, _⟩ => ⟨S_, .f32⟩
  | .hbm, ⟨104, _⟩ => ⟨S4x4096x1024, .f32⟩
  | .hbm, ⟨105, _⟩ => ⟨S1x1024x1024, .f32⟩
  | .hbm, ⟨106, _⟩ => ⟨S1024x1024, .f32⟩
  | .hbm, ⟨107, _⟩ => ⟨S4x4096x1024, .f32⟩
  | .hbm, ⟨108, _⟩ => ⟨S4x4096x1024, .f32⟩
  | .hbm, ⟨109, _⟩ => ⟨S4x4096x1024, .f32⟩
  | .hbm, ⟨110, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_10 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== Inproj.lean ====
abbrev S4x4096x1024 : Shape := ⟨3, ![4, 4096, 1024]⟩
abbrev S4x1x6144 : Shape := ⟨3, ![4, 1, 6144]⟩
abbrev S2x1024 : Shape := ⟨2, ![2, 1024]⟩
abbrev S2x1024x2816 : Shape := ⟨3, ![2, 1024, 2816]⟩
abbrev S1x1024 : Shape := ⟨2, ![1, 1024]⟩
abbrev S1024 : Shape := ⟨1, ![1024]⟩
abbrev S4x4096x2816 : Shape := ⟨3, ![4, 4096, 2816]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x512x2816 : Shape := ⟨3, ![1, 512, 2816]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S2x1024, .f32⟩
  | .hbm, ⟨3, _⟩ => ⟨S2x1024x2816, .bf16⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S4x4096x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x2816, .bf16⟩
  | .local _ .vmem, ⟨8, _⟩ => ⟨S1x512x2816, .f32⟩
  | .local _ .vmem, ⟨9, _⟩ => ⟨S1x512x2816, .f32⟩
  | .local _ .vmem, ⟨10, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let c0_i32_0 : BitVec 32 := 0#32
  let c0_i32_1 : BitVec 32 := 0#32
  ![c1_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x512x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InprojRefIdeal.lean ====
abbrev S4x4096x1024 : Shape := ⟨3, ![4, 4096, 1024]⟩
abbrev S4x1x6144 : Shape := ⟨3, ![4, 1, 6144]⟩
abbrev S2x1024 : Shape := ⟨2, ![2, 1024]⟩
abbrev S2x1024x2816 : Shape := ⟨3, ![2, 1024, 2816]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1024 : Shape := ⟨2, ![1, 1024]⟩
abbrev S1024 : Shape := ⟨1, ![1024]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x4096x2816 : Shape := ⟨3, ![4, 4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S2x1024, .f32⟩
  | .hbm, ⟨3, _⟩ => ⟨S2x1024x2816, .bf16⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1x1024x2816, .bf16⟩
  | .hbm, ⟨36, _⟩ => ⟨S1024x2816, .bf16⟩
  | .hbm, ⟨37, _⟩ => ⟨S1024x2816, .f32⟩
  | .hbm, ⟨38, _⟩ => ⟨S4x4096x2816, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Mods.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S2x6144x8, .f32⟩
  | .hbm, ⟨18, _⟩ => ⟨S2x8x6144, .f32⟩
  | .hbm, ⟨19, _⟩ => ⟨S2x1x6144, .f32⟩
  | .hbm, ⟨20, _⟩ => ⟨S2x8x6144, .f32⟩
  | .hbm, ⟨21, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Columns.lean ====
abbrev S2x1024x6816 : Shape := ⟨3, ![2, 1024, 6816]⟩
abbrev S2x1024x4096 : Shape := ⟨3, ![2, 1024, 4096]⟩
abbrev S2x1024x2816 : Shape := ⟨3, ![2, 1024, 2816]⟩
abbrev S1x128x6816 : Shape := ⟨3, ![1, 128, 6816]⟩
abbrev S1x128x4096 : Shape := ⟨3, ![1, 128, 4096]⟩
abbrev S1x128x2816 : Shape := ⟨3, ![1, 128, 2816]⟩
abbrev S128x6816 : Shape := ⟨2, ![128, 6816]⟩
abbrev S128x4096 : Shape := ⟨2, ![128, 4096]⟩
abbrev S128x32 : Shape := ⟨2, ![128, 32]⟩
abbrev S128x8 : Shape := ⟨2, ![128, 8]⟩
abbrev S128x256 : Shape := ⟨2, ![128, 256]⟩
abbrev S128x128 : Shape := ⟨2, ![128, 128]⟩
abbrev S128x64 : Shape := ⟨2, ![128, 64]⟩
abbrev S128x2816 : Shape := ⟨2, ![128, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2x1024x6816, .f32⟩
  | .hbm, ⟨1, _⟩ => ⟨S2x1024x4096, .bf16⟩
  | .hbm, ⟨2, _⟩ => ⟨S2x1024x2816, .bf16⟩
  | .local _ .vmem, ⟨0, _⟩ => ⟨S1x128x6816, .f32⟩
  | .local _ .vmem, ⟨1, _⟩ => ⟨S1x128x6816, .f32⟩
  | .local _ .vmem, ⟨2, _⟩ => ⟨S1x128x4096, .bf16⟩
  | .local _ .vmem, ⟨3, _⟩ => ⟨S1x128x4096, .bf16⟩
  | .local _ .vmem, ⟨4, _⟩ => ⟨S1x128x2816, .bf16⟩
  | .local _ .vmem, ⟨5, _⟩ => ⟨S1x128x2816, .bf16⟩
  | _, _ => ⟨S2x1024x6816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x6816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ColumnsRefIdeal.lean ====
abbrev S2x1024x6816 : Shape := ⟨3, ![2, 1024, 6816]⟩
abbrev S2x1024x1440 : Shape := ⟨3, ![2, 1024, 1440]⟩
abbrev S2x1024x5376 : Shape := ⟨3, ![2, 1024, 5376]⟩
abbrev S2x1024x128 : Shape := ⟨3, ![2, 1024, 128]⟩
abbrev S2x1024x32 : Shape := ⟨3, ![2, 1024, 32]⟩
abbrev S2x1024x256 : Shape := ⟨3, ![2, 1024, 256]⟩
abbrev S2x1024x4096 : Shape := ⟨3, ![2, 1024, 4096]⟩
abbrev S2x1024x8 : Shape := ⟨3, ![2, 1024, 8]⟩
abbrev S_ : Shape := ⟨0, ![]⟩
abbrev S2x1024x64 : Shape := ⟨3, ![2, 1024, 64]⟩
abbrev S2x1024x2816 : Shape := ⟨3, ![2, 1024, 2816]⟩

abbrev nBuf : Space → Nat
  | .hbm => 26
  | .vmem => 0
  | .smem => 0
  | _ => 0

abbrev bufTy : (tb : Table) → Fin (tcTables nBuf tb) → BufTy
  | .hbm, ⟨0, _⟩ => ⟨S2x1024x6816, .f32⟩
  | .hbm, ⟨1, _⟩ => ⟨S2x1024x1440, .f32⟩
  | .hbm, ⟨2, _⟩ => ⟨S2x1024x5376, .f32⟩
  | .hbm, ⟨3, _⟩ => ⟨S2x1024x128, .f32⟩
  | .hbm, ⟨4, _⟩ => ⟨S2x1024x32, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .hbm, ⟨13, _⟩ => ⟨S2x1024x256, .f32⟩
  | .hbm, ⟨14, _⟩ => ⟨S2x1024x256, .f32⟩
  | .hbm, ⟨15, _⟩ => ⟨S2x1024x4096, .f32⟩
  | .hbm, ⟨16, _⟩ => ⟨S2x1024x8, .f32⟩
  | .hbm, ⟨17, _⟩ => ⟨S2x1024x8, .f32⟩
  | .hbm, ⟨18, _⟩ => ⟨S2x1024x8, .f32⟩
  | .hbm, ⟨19, _⟩ => ⟨S2x1024x8, .f32⟩
  | .hbm, ⟨20, _⟩ => ⟨S2x1024x32, .f32⟩
  | .hbm, ⟨21, _⟩ => ⟨S_, .f32⟩
  | .hbm, ⟨22, _⟩ => ⟨S2x1024x64, .f32⟩
  | .hbm, ⟨23, _⟩ => ⟨S2x1024x2816, .f32⟩
  | .hbm, ⟨24, _⟩ => ⟨S2x1024x4096, .bf16⟩
  | .hbm, ⟨25, _⟩ => ⟨S2x1024x2816, .bf16⟩
  | _, _ => ⟨S2x1024x6816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_cst : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩

abbrev nD : Nat := 1
abbrev τ : Topo := Topo.v7x

variable {F : FTy → Type} [FloatOps F]
-- ==== Proof.Attn.Fold.lean ====
/- The attention kernel's arithmetic on one block of queries, as functions of the block's inputs: for each head a pair
   (running maximum, running sums) folded over the chunks of keys. Nothing here is about memory. -/
module

public import proofs.«01_k».proof.Proof.Gen.AttnIdeal.Skeleton
public import Idealize.ShloMosaic.Lib.ValueIdx

@[expose] public section

noncomputable section

namespace Cert.Proof.Attn

open Idealize.ShloMosaic Idealize.ShloMosaic.ValueIdx Cert.AttnIdeal Cert.AttnIdeal.Gen

variable {F : FTy → Type} [FloatOps F]

/-- One head's running state: the maximum of the scores so far, and the weighted sums of the value rows (rows 0 to 63)
    beside the sum of the weights (row 64). -/
abbrev Acc (F : FTy → Type) := FVec F S1x512 .f32 × FVec F S80x512 .f32

/-- The four heads' states as the kernel carries them through its loop. -/
abbrev Tup (F : FTy → Type) := FVec F S1x512 .f32 × FVec F S80x512 .f32 × FVec F S1x512 .f32 × FVec F S80x512 .f32
  × FVec F S1x512 .f32 × FVec F S80x512 .f32 × FVec F S1x512 .f32 × FVec F S80x512 .f32

def tup (a : Fin 4 → Acc F) : Tup F :=
  ((a 0).1, (a 0).2, (a 1).1, (a 1).2, (a 2).1, (a 2).2, (a 3).1, (a 3).2)

def untup (t : Tup F) : Fin 4 → Acc F
  | 0 => (t.1, t.2.1)
  | 1 => (t.2.2.1, t.2.2.2.1)
  | 2 => (t.2.2.2.2.1, t.2.2.2.2.2.1)
  | 3 => (t.2.2.2.2.2.2.1, t.2.2.2.2.2.2.2)

theorem tup_untup (t : Tup F) : tup (untup t) = t := rfl

/-- The scores of one head's queries against 512 keys. -/
def sc (q : FVec F S512x128 .bf16) (kb : Vec F S1x1x512x128 .bf16) : FVec F S1x512x512 .f32 := k0_pay2 q kb

/-- The scores of one head's queries against the 256 context keys. -/
def scC (q : FVec F S512x128 .bf16) (kb : Vec F S1x1x256x128 .bf16) : FVec F S1x256x512 .f32 := k0_pay49 q kb

/-- One head's state after 512 further keys, from their scores and value rows. -/
def upd (a : Acc F) (s : FVec F S1x512x512 .f32) (v : Vec F S1x64x512 .bf16) : Acc F :=
  (k0_pay9 a.1 s, k0_pay10 a.1 a.2 s v)

/-- One head's state after the 256 context keys. -/
def updC (a : Acc F) (s : FVec F S1x256x512 .f32) (v : Vec F S1x64x256 .bf16) : Acc F :=
  (k0_pay70 a.1 s, k0_pay71 a.1 a.2 k0_pay56 s v)

/-- The state before any key. -/
def start : Acc F := (k0_pay46, k0_pay47)

/-- The queries of head `a`. -/
def qAt (x : Vec F S1x4x512x128 .bf16) (a : ℕ) : Vec F S1x1x512x128 .bf16 :=
  fun i => x (ix4 0 ⟨a % 4, Nat.mod_lt _ (by norm_num)⟩ (i 2) (i 3))

/-- Head `h`'s queries of the block. -/
def qh (x : Vec F S1x4x512x128 .bf16) (h : Fin 4) : FVec F S512x128 .bf16 :=
  k0_pay36 (qAt x h.val)

/-- The context keys of head `a`. -/
def kCAt (x : Vec F S1x4x256x128 .bf16) (a : ℕ) : Vec F S1x1x256x128 .bf16 :=
  fun i => x (ix4 0 ⟨a % 4, Nat.mod_lt _ (by norm_num)⟩ (i 2) (i 3))

/-- The context value rows `a` to `a + 63`. -/
def vCAt (x : Vec F S1x256x256 .bf16) (a : ℕ) : Vec F S1x64x256 .bf16 :=
  fun i => x (ix3 0 ⟨(a + (i 1).val) % 256, Nat.mod_lt _ (by norm_num)⟩ (i 2))

/-- Rows `b` to `b + 511` of the latent keys of head `a`. -/
def kAt (x : Vec F S1x4x4096x128 .bf16) (a b : ℕ) : Vec F S1x1x512x128 .bf16 :=
  fun i => x (ix4 0 ⟨a % 4, Nat.mod_lt _ (by norm_num)⟩ ⟨(b + (i 2).val) % 4096, Nat.mod_lt _ (by norm_num)⟩ (i 3))

/-- Columns `b` to `b + 511` of the latent value rows `a` to `a + 63`. -/
def vAt (x : Vec F S1x256x4096 .bf16) (a b : ℕ) : Vec F S1x64x512 .bf16 :=
  fun i => x (ix3 0 ⟨(a + (i 1).val) % 256, Nat.mod_lt _ (by norm_num)⟩ ⟨(b + (i 2).val) % 4096, Nat.mod_lt _ (by norm_num)⟩)

/-- Chunk `c` of head `h`'s latent keys. -/
def kL (x : Vec F S1x4x4096x128 .bf16) (h : Fin 4) (c : ℕ) : Vec F S1x1x512x128 .bf16 := kAt x h.val (512 * c)

/-- Chunk `c` of head `h`'s latent value rows. -/
def vL (x : Vec F S1x256x4096 .bf16) (h : Fin 4) (c : ℕ) : Vec F S1x64x512 .bf16 := vAt x (64 * h.val) (512 * c)

/-- The heads' states after `n` chunks of latent keys, from the states `a`. -/
def lat (q : Fin 4 → FVec F S512x128 .bf16) (x3 : Vec F S1x4x4096x128 .bf16) (x4 : Vec F S1x256x4096 .bf16)
    (a : Fin 4 → Acc F) : ℕ → Fin 4 → Acc F
  | 0 => a
  | n + 1 => fun h => upd (lat q x3 x4 a n h) (sc (q h) (kL x3 h n)) (vL x4 h n)

/-- The heads' states after the context keys. -/
def ctx (x0 : Vec F S1x4x512x128 .bf16) (x1 : Vec F S1x4x256x128 .bf16) (x2 : Vec F S1x256x256 .bf16) (h : Fin 4) : Acc F :=
  updC start (scC (qh x0 h) (kCAt x1 h.val)) (vCAt x2 (64 * h.val))

/-- The weighted sums over the sum of the weights. -/
def quot (a : FVec F S80x512 .f32) : FVec F S64x512 .f32 :=
  divf (extractStridedSlice S64x512 ![0, 0] a slices_S80x512_o0_0_S64x512)
    (broadcastTo S64x512 (extractStridedSlice S1x512 ![64, 0] a slices_S80x512_o64_0_S1x512) broadcasts_S1x512_S64x512)

/-- The block of the result from the four heads' last sums. -/
def out (a : Fin 4 → FVec F S80x512 .f32) : FVec F S1x512x256 .bf16 :=
  shapeCast S1x512x256 (truncf .bf16 (transpose S512x256 [1, 0]
    (concatenate S256x512 0 [⟨S64x512, quot (a 0)⟩, ⟨S64x512, quot (a 1)⟩, ⟨S64x512, quot (a 2)⟩, ⟨S64x512, quot (a 3)⟩]
      concatenates_S64x512_S64x512_S64x512_S64x512_S256x512_d0) transposes_S256x512_p1_0_S512x256) bitsLt_bf16_f32)
    shapeCasts_S512x256_S1x512x256

/-- The block of the result from the block's inputs. -/
def blk (x0 : Vec F S1x4x512x128 .bf16) (x1 : Vec F S1x4x256x128 .bf16) (x2 : Vec F S1x256x256 .bf16)
    (x3 : Vec F S1x4x4096x128 .bf16) (x4 : Vec F S1x256x4096 .bf16) : FVec F S1x512x256 .bf16 :=
  out fun h => (lat (qh x0) x3 x4 (ctx x0 x1 x2) 8 h).2

end Cert.Proof.Attn

end
-- ==== Proof.Attn.Reads.lean ====
/- What the attention kernel's loads read: rectangles of the inputs' buffers as functions of their contents, and a head's
   scores back from a score buffer after all four heads' were stored. -/
module

public import proofs.«01_k».proof.Proof.Attn.Fold
public import Idealize.ShloMosaic.Lib.Pipeline.FrameBody
public import Idealize.ShloMosaic.Lib.Pipeline.Frame
public import Idealize.ShloMosaic.Lib.Pipeline.ReadBack
public import Idealize.ShloMosaic.Lib.WholeRead

@[expose] public section

noncomputable section

namespace Cert.Proof.Attn

open Idealize.ShloMosaic Idealize.ShloMosaic.ValueIdx Cert.AttnIdeal Cert.AttnIdeal.Gen

variable {F : FTy → Type} [FloatOps F]

theorem read_q {m : Memref sig .tc .vmem S1x4x512x128 .bf16} (h : m.IsWhole) (x : Vec F S1x4x512x128 .bf16) (off : Fin 4 → ℕ)
    (inb : ∀ a, off a + S1x1x512x128.size a ≤ S1x4x512x128.size a) :
    m.view.readAt (Elt F) (Rect.unit (s := S1x4x512x128) off S1x1x512x128.size inb).toLoadRect (h.unread x) = qAt x (off 1) := by
  funext i
  rw [h.readAt_unread]
  refine congrArg x (funext fun a => Fin.ext ?_)
  have b0 := inb 0; have b1 := inb 1; have b2 := inb 2; have b3 := inb 3
  have i0 : (i 0).val < 1 := (i 0).isLt
  have i1 : (i 1).val < 1 := (i 1).isLt
  simp at b0 b1 b2 b3
  fin_cases a
  · show off 0 + 1 * (i 0).val = 0; omega
  · show off 1 + 1 * (i 1).val = off 1 % 4; omega
  · show off 2 + 1 * (i 2).val = (i 2).val; omega
  · show off 3 + 1 * (i 3).val = (i 3).val; omega

theorem read_kC {m : Memref sig .tc .vmem S1x4x256x128 .bf16} (h : m.IsWhole) (x : Vec F S1x4x256x128 .bf16) (off : Fin 4 → ℕ)
    (inb : ∀ a, off a + S1x1x256x128.size a ≤ S1x4x256x128.size a) :
    m.view.readAt (Elt F) (Rect.unit (s := S1x4x256x128) off S1x1x256x128.size inb).toLoadRect (h.unread x) = kCAt x (off 1) := by
  funext i
  rw [h.readAt_unread]
  refine congrArg x (funext fun a => Fin.ext ?_)
  have b0 := inb 0; have b1 := inb 1; have b2 := inb 2; have b3 := inb 3
  have i0 : (i 0).val < 1 := (i 0).isLt
  have i1 : (i 1).val < 1 := (i 1).isLt
  simp at b0 b1 b2 b3
  fin_cases a
  · show off 0 + 1 * (i 0).val = 0; omega
  · show off 1 + 1 * (i 1).val = off 1 % 4; omega
  · show off 2 + 1 * (i 2).val = (i 2).val; omega
  · show off 3 + 1 * (i 3).val = (i 3).val; omega

theorem read_kL {m : Memref sig .tc .vmem S1x4x4096x128 .bf16} (h : m.IsWhole) (x : Vec F S1x4x4096x128 .bf16) (off : Fin 4 → ℕ)
    (inb : ∀ a, off a + S1x1x512x128.size a ≤ S1x4x4096x128.size a) :
    m.view.readAt (Elt F) (Rect.unit (s := S1x4x4096x128) off S1x1x512x128.size inb).toLoadRect (h.unread x)
      = kAt x (off 1) (off 2) := by
  funext i
  rw [h.readAt_unread]
  refine congrArg x (funext fun a => Fin.ext ?_)
  have b0 := inb 0; have b1 := inb 1; have b2 := inb 2; have b3 := inb 3
  have i0 : (i 0).val < 1 := (i 0).isLt
  have i1 : (i 1).val < 1 := (i 1).isLt
  have i2 : (i 2).val < 512 := (i 2).isLt
  simp at b0 b1 b2 b3
  fin_cases a
  · show off 0 + 1 * (i 0).val = 0; omega
  · show off 1 + 1 * (i 1).val = off 1 % 4; omega
  · show off 2 + 1 * (i 2).val = (off 2 + (i 2).val) % 4096; omega
  · show off 3 + 1 * (i 3).val = (i 3).val; omega

theorem read_vC {m : Memref sig .tc .vmem S1x256x256 .bf16} (h : m.IsWhole) (x : Vec F S1x256x256 .bf16) (off : Fin 3 → ℕ)
    (inb : ∀ a, off a + S1x64x256.size a ≤ S1x256x256.size a) :
    m.view.readAt (Elt F) (Rect.unit (s := S1x256x256) off S1x64x256.size inb).toLoadRect (h.unread x) = vCAt x (off 1) := by
  funext i
  rw [h.readAt_unread]
  refine congrArg x (funext fun a => Fin.ext ?_)
  have b0 := inb 0; have b1 := inb 1; have b2 := inb 2
  have i0 : (i 0).val < 1 := (i 0).isLt
  have i1 : (i 1).val < 64 := (i 1).isLt
  simp at b0 b1 b2
  fin_cases a
  · show off 0 + 1 * (i 0).val = 0; omega
  · show off 1 + 1 * (i 1).val = (off 1 + (i 1).val) % 256; omega
  · show off 2 + 1 * (i 2).val = (i 2).val; omega

theorem read_vL {m : Memref sig .tc .vmem S1x256x4096 .bf16} (h : m.IsWhole) (x : Vec F S1x256x4096 .bf16) (off : Fin 3 → ℕ)
    (inb : ∀ a, off a + S1x64x512.size a ≤ S1x256x4096.size a) :
    m.view.readAt (Elt F) (Rect.unit (s := S1x256x4096) off S1x64x512.size inb).toLoadRect (h.unread x)
      = vAt x (off 1) (off 2) := by
  funext i
  rw [h.readAt_unread]
  refine congrArg x (funext fun a => Fin.ext ?_)
  have b0 := inb 0; have b1 := inb 1; have b2 := inb 2
  have i0 : (i 0).val < 1 := (i 0).isLt
  have i1 : (i 1).val < 64 := (i 1).isLt
  have i2 : (i 2).val < 512 := (i 2).isLt
  simp at b0 b1 b2
  fin_cases a
  · show off 0 + 1 * (i 0).val = 0; omega
  · show off 1 + 1 * (i 1).val = (off 1 + (i 1).val) % 256; omega
  · show off 2 + 1 * (i 2).val = (off 2 + (i 2).val) % 4096; omega

theorem read_kL_at {m : Memref sig .tc .vmem S1x4x4096x128 .bf16} (h : m.IsWhole) (x : Vec F S1x4x4096x128 .bf16) (a : Fin 4) (c : ℕ)
    (off : Fin 4 → ℕ) (e : off = ![0, a.val, 512 * c, 0])
    (inb : ∀ a, off a + S1x1x512x128.size a ≤ S1x4x4096x128.size a) :
    m.view.readAt (Elt F) (Rect.unit (s := S1x4x4096x128) off S1x1x512x128.size inb).toLoadRect (h.unread x) = kL x a c := by
  subst e; exact read_kL h x _ _

theorem read_vL_at {m : Memref sig .tc .vmem S1x256x4096 .bf16} (h : m.IsWhole) (x : Vec F S1x256x4096 .bf16) (a : Fin 4) (c : ℕ)
    (off : Fin 3 → ℕ) (e : off = ![0, 64 * a.val, 512 * c])
    (inb : ∀ a, off a + S1x64x512.size a ≤ S1x256x4096.size a) :
    m.view.readAt (Elt F) (Rect.unit (s := S1x256x4096) off S1x64x512.size inb).toLoadRect (h.unread x) = vL x a c := by
  subst e; exact read_vL h x _ _

/-- The rectangle of head `0` of a score buffer, and those of the other heads. -/
abbrev R0 := Rect.unit (s := S4x512x512) ![0, 0, 0] S1x512x512.size inb_S4x512x512_S1x512x512_0_0_0
abbrev R1 := Rect.unit (s := S4x512x512) ![1, 0, 0] S1x512x512.size inb_S4x512x512_S1x512x512_1_0_0
abbrev R2 := Rect.unit (s := S4x512x512) ![2, 0, 0] S1x512x512.size inb_S4x512x512_S1x512x512_2_0_0
abbrev R3 := Rect.unit (s := S4x512x512) ![3, 0, 0] S1x512x512.size inb_S4x512x512_S1x512x512_3_0_0

/-- A head's scores read back after the four heads' were stored. -/
theorem back (v : View sig .tc .vmem S4x512x512 .f32) (p0 p1 p2 p3 : FVec F S1x512x512 .f32) (L : List (View.Piece (Elt F) S4x512x512 .f32)) :
    v.readCov (⟨R3, p3⟩ :: ⟨R2, p2⟩ :: ⟨R1, p1⟩ :: ⟨R0, p0⟩ :: L) R0.toLoadRect = p0 ∧
    v.readCov (⟨R3, p3⟩ :: ⟨R2, p2⟩ :: ⟨R1, p1⟩ :: ⟨R0, p0⟩ :: L) R1.toLoadRect = p1 ∧
    v.readCov (⟨R3, p3⟩ :: ⟨R2, p2⟩ :: ⟨R1, p1⟩ :: ⟨R0, p0⟩ :: L) R2.toLoadRect = p2 ∧
    v.readCov (⟨R3, p3⟩ :: ⟨R2, p2⟩ :: ⟨R1, p1⟩ :: ⟨R0, p0⟩ :: L) R3.toLoadRect = p3 := by
  refine ⟨?_, ?_, ?_, ?_⟩
  · rw [View.readCov_skip _ _ _ _ _ (by decide), View.readCov_skip _ _ _ _ _ (by decide),
      View.readCov_skip _ _ _ _ _ (by decide), View.readCov_cons_toLoadRect]
  · rw [View.readCov_skip _ _ _ _ _ (by decide), View.readCov_skip _ _ _ _ _ (by decide), View.readCov_cons_toLoadRect]
  · rw [View.readCov_skip _ _ _ _ _ (by decide), View.readCov_cons_toLoadRect]
  · rw [View.readCov_cons_toLoadRect]

/-- The same off the buffer's contents after the stores, whatever it held before. -/
theorem back_at (v : View sig .tc .vmem S4x512x512 .f32) (f : v.ty.Contents (Elt F)) (p0 p1 p2 p3 : FVec F S1x512x512 .f32)
    (L : List (View.Piece (Elt F) S4x512x512 .f32)) :
    v.readAt (Elt F) R0.toLoadRect (v.writes (Elt F) f (⟨R3, p3⟩ :: ⟨R2, p2⟩ :: ⟨R1, p1⟩ :: ⟨R0, p0⟩ :: L)) = p0 ∧
    v.readAt (Elt F) R1.toLoadRect (v.writes (Elt F) f (⟨R3, p3⟩ :: ⟨R2, p2⟩ :: ⟨R1, p1⟩ :: ⟨R0, p0⟩ :: L)) = p1 ∧
    v.readAt (Elt F) R2.toLoadRect (v.writes (Elt F) f (⟨R3, p3⟩ :: ⟨R2, p2⟩ :: ⟨R1, p1⟩ :: ⟨R0, p0⟩ :: L)) = p2 ∧
    v.readAt (Elt F) R3.toLoadRect (v.writes (Elt F) f (⟨R3, p3⟩ :: ⟨R2, p2⟩ :: ⟨R1, p1⟩ :: ⟨R0, p0⟩ :: L)) = p3 := by
  obtain ⟨h0, h1, h2, h3⟩ := back v p0 p1 p2 p3 L
  refine ⟨?_, ?_, ?_, ?_⟩
  · rw [View.readAt_writes_of_cover _ _ _ _ fun j => ⟨⟨R0, p0⟩, by simp, R0.toLoadRect.idx_mem j⟩, h0]
  · rw [View.readAt_writes_of_cover _ _ _ _ fun j => ⟨⟨R1, p1⟩, by simp, R1.toLoadRect.idx_mem j⟩, h1]
  · rw [View.readAt_writes_of_cover _ _ _ _ fun j => ⟨⟨R2, p2⟩, by simp, R2.toLoadRect.idx_mem j⟩, h2]
  · rw [View.readAt_writes_of_cover _ _ _ _ fun j => ⟨⟨R3, p3⟩, by simp, R3.toLoadRect.idx_mem j⟩, h3]

/-- The rectangles of the heads of a score buffer that the context keys' scores take. -/
abbrev C0 := Rect.unit (s := S4x512x512) ![0, 0, 0] S1x256x512.size inb_S4x512x512_S1x256x512_0_0_0
abbrev C1 := Rect.unit (s := S4x512x512) ![1, 0, 0] S1x256x512.size inb_S4x512x512_S1x256x512_1_0_0
abbrev C2 := Rect.unit (s := S4x512x512) ![2, 0, 0] S1x256x512.size inb_S4x512x512_S1x256x512_2_0_0
abbrev C3 := Rect.unit (s := S4x512x512) ![3, 0, 0] S1x256x512.size inb_S4x512x512_S1x256x512_3_0_0

/-- A head's context scores read back after the four heads' were stored. -/
theorem backC (v : View sig .tc .vmem S4x512x512 .f32) (p0 p1 p2 p3 : FVec F S1x256x512 .f32) (L : List (View.Piece (Elt F) S4x512x512 .f32)) :
    v.readCov (⟨C3, p3⟩ :: ⟨C2, p2⟩ :: ⟨C1, p1⟩ :: ⟨C0, p0⟩ :: L) C0.toLoadRect = p0 ∧
    v.readCov (⟨C3, p3⟩ :: ⟨C2, p2⟩ :: ⟨C1, p1⟩ :: ⟨C0, p0⟩ :: L) C1.toLoadRect = p1 ∧
    v.readCov (⟨C3, p3⟩ :: ⟨C2, p2⟩ :: ⟨C1, p1⟩ :: ⟨C0, p0⟩ :: L) C2.toLoadRect = p2 ∧
    v.readCov (⟨C3, p3⟩ :: ⟨C2, p2⟩ :: ⟨C1, p1⟩ :: ⟨C0, p0⟩ :: L) C3.toLoadRect = p3 := by
  refine ⟨?_, ?_, ?_, ?_⟩
  · rw [View.readCov_skip _ _ _ _ _ (by decide), View.readCov_skip _ _ _ _ _ (by decide),
      View.readCov_skip _ _ _ _ _ (by decide), View.readCov_cons_toLoadRect]
  · rw [View.readCov_skip _ _ _ _ _ (by decide), View.readCov_skip _ _ _ _ _ (by decide), View.readCov_cons_toLoadRect]
  · rw [View.readCov_skip _ _ _ _ _ (by decide), View.readCov_cons_toLoadRect]
  · rw [View.readCov_cons_toLoadRect]

end Cert.Proof.Attn

end
-- ==== Proof.Attn.Trip.lean ====
/- One trip of the attention kernel's loop over pairs of latent key chunks, and the loop's invariant: the carried tuple is
   the fold of the chunks so far, and the second score buffer holds the scores of the chunk the next trip starts with. -/
module

public import proofs.«01_k».proof.Proof.Attn.Reads
public import proofs.«01_k».proof.Proof.Gen.AttnIdeal.Launch
public import Idealize.ShloMosaic.Lib.Exec
public import Idealize.ShloMosaic.Lib.Tactic
public import Idealize.ShloMosaic.Lib.Pipeline.Kit
public import Idealize.ShloMosaic.Lib.Pipeline.Frame
public import Idealize.ShloMosaic.Lib.Pipeline.FrameBody

@[expose] public section

set_option maxRecDepth 8192
set_option maxHeartbeats 4000000

noncomputable section

namespace Cert.Proof.Attn

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F]

local notation "𝕄G" => MT nD τ sig Unit (Elt F) ℕ (UR sig nD τ) ℕ

/-- The score buffer `f` holds, head by head, the scores `s`. -/
def Holds (m : Memref sig .tc .vmem S4x512x512 .f32) (f : BufTy.Contents (Elt F) m.view.ty)
    (s : Fin 4 → FVec F S1x512x512 .f32) : Prop :=
  m.view.readAt (Elt F) R0.toLoadRect f = s 0 ∧ m.view.readAt (Elt F) R1.toLoadRect f = s 1 ∧
  m.view.readAt (Elt F) R2.toLoadRect f = s 2 ∧ m.view.readAt (Elt F) R3.toLoadRect f = s 3

/-- The four heads' queries by their number. -/
def qs (v1 v3 v5 v7 : FVec F S512x128 .bf16) : Fin 4 → FVec F S512x128 .bf16
  | 0 => v1 | 1 => v3 | 2 => v5 | 3 => v7

/-- One trip takes the fold of the first `2 k` chunks to that of the first `2 k + 2`. -/
theorem trip (𝒱 : Variants) (c : Dev nD) (bd : Option 𝒱.V) (E : Set ℕ) (i : grid0.Coords) (arg2 : Memref sig .tc .vmem S1x4x512x128 .bf16) (harg2 : arg2.IsWhole) (arg3 : Memref sig .tc .vmem S1x4x256x128 .bf16) (harg3 : arg3.IsWhole) (arg4 : Memref sig .tc .vmem S1x256x256 .bf16) (harg4 : arg4.IsWhole) (arg5 : Memref sig .tc .vmem S1x4x4096x128 .bf16) (harg5 : arg5.IsWhole) (arg6 : Memref sig .tc .vmem S1x256x4096 .bf16) (harg6 : arg6.IsWhole) (arg7 : Memref sig .tc .vmem S1x512x256 .bf16) (harg7 : arg7.IsWhole) (arg8 : Memref sig .tc .vmem S4x512x512 .f32) (harg8 : arg8.IsWhole) (arg9 : Memref sig .tc .vmem S4x512x512 .f32) (harg9 : arg9.IsWhole) (v1 : FVec F S512x128 .bf16) (v3 : FVec F S512x128 .bf16) (v5 : FVec F S512x128 .bf16) (v7 : FVec F S512x128 .bf16) (v13 : FVec F S80x512 .f32) (v14 : FVec F S1x512 .f32) (v15 : FVec F S80x512 .f32) (v74 : BitVec 32) (v75 : FVec F S16x256 .bf16) (v80 : FVec F S1x512 .f32) (v94 : FVec F S80x512 .f32) (v99 : FVec F S1x512 .f32) (v113 : FVec F S80x512 .f32) (v118 : FVec F S1x512 .f32) (v120 : FVec F S1x512 .f32) (v124 : FVec F S256x512 .bf16)
    (x3 : Vec F S1x4x4096x128 .bf16) (x4 : Vec F S1x256x4096 .bf16) (a : Fin 4 → Acc F) (k : Fin k0_t1_loop.trips)
    (f8 : BufTy.Contents (Elt F) arg8.view.ty) (f9 : BufTy.Contents (Elt F) arg9.view.ty)
    (h9 : Holds arg9 f9 fun h => sc (qs v1 v3 v5 v7 h) (kL x3 h (2 * k.val))) :
    (iprop((arg5.view.loc (c : Thread nD τ) ↦[arg5.view.set]{fullShare} harg5.unread x3)
      ∗ (arg6.view.loc (c : Thread nD τ) ↦[arg6.view.set]{fullShare} harg6.unread x4)
      ∗ (arg8.view.loc (c : Thread nD τ) ↦[arg8.view.set]{fullShare} f8)
      ∗ (arg9.view.loc (c : Thread nD τ) ↦[arg9.view.set]{fullShare} f9)) : sProp 𝕄G)
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 v1 v3 v5 v7 v13 v14 v15 v74 v75 v80 v94 v99 v113 v118 v120 v124 k (tup (lat (qs v1 v3 v5 v7) x3 x4 a (2 * k.val))))
          (fun yld => iprop(((arg5.view.loc (c : Thread nD τ) ↦[arg5.view.set]{fullShare} harg5.unread x3)
            ∗ (arg6.view.loc (c : Thread nD τ) ↦[arg6.view.set]{fullShare} harg6.unread x4)
            ∗ (∃ f : BufTy.Contents (Elt F) arg8.view.ty, arg8.view.loc (c : Thread nD τ) ↦[arg8.view.set]{fullShare} f)
            ∗ (∃ f : BufTy.Contents (Elt F) arg9.view.ty, (arg9.view.loc (c : Thread nD τ) ↦[arg9.view.set]{fullShare} f)
                ∗ ⌜Holds arg9 f fun h => sc (qs v1 v3 v5 v7 h) (kL x3 h (2 * (k.val + 1)))⌝)
            ∗ ⌜yld = tup (lat (qs v1 v3 v5 v7) x3 x4 a (2 * (k.val + 1)))⌝))) := by
  have ka0 := fun inb => read_kL_at harg5 x3 0 (2 * k.val + 1) (k0_off1 k 1#32) ((k0_off1_eq k ⟨0, by decide⟩).trans (by simp; ring)) inb
  have kb0 := fun inb => read_kL_at harg5 x3 0 (2 * (k.val + 1)) (k0_off1 k 2#32) ((k0_off1_eq k ⟨1, by decide⟩).trans (by simp; ring)) inb
  have va0 := fun inb => read_vL_at harg6 x4 0 (2 * k.val) (k0_off5 k) ((k0_off5_eq k).trans (by simp; ring)) inb
  have vb0 := fun inb => read_vL_at harg6 x4 0 (2 * k.val + 1) (k0_off9 k) ((k0_off9_eq k).trans (by simp; ring)) inb
  have ka1 := fun inb => read_kL_at harg5 x3 1 (2 * k.val + 1) (k0_off2 k 1#32) ((k0_off2_eq k ⟨0, by decide⟩).trans (by simp; ring)) inb
  have kb1 := fun inb => read_kL_at harg5 x3 1 (2 * (k.val + 1)) (k0_off2 k 2#32) ((k0_off2_eq k ⟨1, by decide⟩).trans (by simp; ring)) inb
  have va1 := fun inb => read_vL_at harg6 x4 1 (2 * k.val) (k0_off6 k) ((k0_off6_eq k).trans (by simp; ring)) inb
  have vb1 := fun inb => read_vL_at harg6 x4 1 (2 * k.val + 1) (k0_off10 k) ((k0_off10_eq k).trans (by simp; ring)) inb
  have ka2 := fun inb => read_kL_at harg5 x3 2 (2 * k.val + 1) (k0_off3 k 1#32) ((k0_off3_eq k ⟨0, by decide⟩).trans (by simp; ring)) inb
  have kb2 := fun inb => read_kL_at harg5 x3 2 (2 * (k.val + 1)) (k0_off3 k 2#32) ((k0_off3_eq k ⟨1, by decide⟩).trans (by simp; ring)) inb
  have va2 := fun inb => read_vL_at harg6 x4 2 (2 * k.val) (k0_off7 k) ((k0_off7_eq k).trans (by simp; ring)) inb
  have vb2 := fun inb => read_vL_at harg6 x4 2 (2 * k.val + 1) (k0_off11 k) ((k0_off11_eq k).trans (by simp; ring)) inb
  have ka3 := fun inb => read_kL_at harg5 x3 3 (2 * k.val + 1) (k0_off4 k 1#32) ((k0_off4_eq k ⟨0, by decide⟩).trans (by simp; ring)) inb
  have kb3 := fun inb => read_kL_at harg5 x3 3 (2 * (k.val + 1)) (k0_off4 k 2#32) ((k0_off4_eq k ⟨1, by decide⟩).trans (by simp; ring)) inb
  have va3 := fun inb => read_vL_at harg6 x4 3 (2 * k.val) (k0_off8 k) ((k0_off8_eq k).trans (by simp; ring)) inb
  have vb3 := fun inb => read_vL_at harg6 x4 3 (2 * k.val + 1) (k0_off12 k) ((k0_off12_eq k).trans (by simp; ring)) inb
  unfold k0_t1_body
  iintro ⟨H5, H6, H8, H9⟩
  sl_exec
  sl_step
  isplitl [H5]; · iexact H5
  isplitl [H6]; · iexact H6
  isplitl [H8]; · iexists _; iexact H8
  isplitl [H9]
  · iexists _; isplitl [H9]; · iexact H9
    ipureintro
    sl_unfold_run_names
    obtain ⟨h0, h1, h2, h3⟩ := back_at (F := F) arg9.view f9 _ _ _ _ []
    refine ⟨h0.trans ?_, h1.trans ?_, h2.trans ?_, h3.trans ?_⟩
    · rfl
    · rfl
    · rfl
    · rfl
  ipureintro
  obtain ⟨g0, g1, g2, g3⟩ := h9
  sl_unfold_run_names
  simp only [(back arg8.view _ _ _ _ _).1, (back arg8.view _ _ _ _ _).2.1, (back arg8.view _ _ _ _ _).2.2.1, (back arg8.view _ _ _ _ _).2.2.2,
    ka0, ka1, ka2, ka3, va0, va1, va2, va3, vb0, vb1, vb2, vb3, g0, g1, g2, g3]
  rfl

end Cert.Proof.Attn

end
-- ==== Proof.Attn.Inv.lean ====
/- The attention kernel's loop as an invariant: before trip `k` the second score buffer holds the scores of chunk `2 k` and
   the carried values are the heads' states after `2 k` chunks of latent keys. -/
module

public import proofs.«01_k».proof.Proof.Attn.Trip

@[expose] public section

set_option warn.classDefReducibility false

noncomputable section

namespace Cert.Proof.Attn

open Idealize.ShloMosaic Idealize.ShloMosaic.TcCoe Idealize.ShloMosaic.Tactic Cert.AttnIdeal Cert.AttnIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The loop's values carried before trip `k`, from those carried in. -/
def carried (q : Fin 4 → FVec F S512x128 .bf16) (x3 : Vec F S1x4x4096x128 .bf16) (x4 : Vec F S1x256x4096 .bf16) (init : Tup F)
    (k : ℕ) : Tup F := tup (lat q x3 x4 (untup init) (2 * k))

/-- The invariant of the loop over pairs of chunks. -/
@[sl_loop] def loopInv (𝒱 : Variants) (c : Dev nD) (bd : Option 𝒱.V) (E : Set ℕ) (i : grid0.Coords) (arg2 : Memref sig .tc .vmem S1x4x512x128 .bf16) (harg2 : arg2.IsWhole) (arg3 : Memref sig .tc .vmem S1x4x256x128 .bf16) (harg3 : arg3.IsWhole) (arg4 : Memref sig .tc .vmem S1x256x256 .bf16) (harg4 : arg4.IsWhole) (arg5 : Memref sig .tc .vmem S1x4x4096x128 .bf16) (harg5 : arg5.IsWhole) (arg6 : Memref sig .tc .vmem S1x256x4096 .bf16) (harg6 : arg6.IsWhole) (arg7 : Memref sig .tc .vmem S1x512x256 .bf16) (harg7 : arg7.IsWhole) (arg8 : Memref sig .tc .vmem S4x512x512 .f32) (harg8 : arg8.IsWhole) (arg9 : Memref sig .tc .vmem S4x512x512 .f32) (harg9 : arg9.IsWhole) (v1 : FVec F S512x128 .bf16) (v3 : FVec F S512x128 .bf16) (v5 : FVec F S512x128 .bf16) (v7 : FVec F S512x128 .bf16) (v13 : FVec F S80x512 .f32) (v14 : FVec F S1x512 .f32) (v15 : FVec F S80x512 .f32) (v74 : BitVec 32) (v75 : FVec F S16x256 .bf16) (v80 : FVec F S1x512 .f32) (v94 : FVec F S80x512 .f32) (v99 : FVec F S1x512 .f32) (v113 : FVec F S80x512 .f32) (v118 : FVec F S1x512 .f32) (v120 : FVec F S1x512 .f32) (v124 : FVec F S256x512 .bf16)
    (x3 : Vec F S1x4x4096x128 .bf16) (x4 : Vec F S1x256x4096 .bf16) (init : Tup F) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok init (k0_t1_body (F := F) i arg2 harg2 arg3 harg3 arg4 harg4 arg5 harg5 arg6 harg6 arg7 harg7 arg8 harg8 arg9 harg9 v1 v3 v5 v7 v13 v14 v15 v74 v75 v80 v94 v99 v113 v118 v120 v124) where
  inv k acc := iprop((arg5.view.loc (c : Thread nD τ) ↦[arg5.view.set]{fullShare} harg5.unread x3)
    ∗ (arg6.view.loc (c : Thread nD τ) ↦[arg6.view.set]{fullShare} harg6.unread x4)
    ∗ (∃ f : BufTy.Contents (Elt F) arg8.view.ty, arg8.view.loc (c : Thread nD τ) ↦[arg8.view.set]{fullShare} f)
    ∗ (∃ f : BufTy.Contents (Elt F) arg9.view.ty, (arg9.view.loc (c : Thread nD τ) ↦[arg9.view.set]{fullShare} f)
        ∗ ⌜Holds arg9 f fun h => sc (qs v1 v3 v5 v7 h) (kL x3 h (2 * k))⌝)
    ∗ ⌜acc = carried (qs v1 v3 v5 v7) x3 x4 init k⌝)
  step k acc := by
    iintro ⟨H5, H6, ⟨%f8, H8⟩, ⟨%f9, H9, %h9⟩, %hacc⟩
    subst hacc
    iapply (trip 𝒱 c bd E i arg2 harg2 arg3 harg3 arg4 harg4 arg5 harg5 arg6 harg6 arg7 harg7 arg8 harg8 arg9 harg9 v1 v3 v5 v7 v13 v14 v15 v74 v75 v80 v94 v99 v113 v118 v120 v124 x3 x4 (untup init) k f8 f9 h9)
    isplitl [H5]; · iexact H5
    isplitl [H6]; · iexact H6
    isplitl [H8]; · iexact H8
    iexact H9

end Cert.Proof.Attn

end
-- ==== Proof.Attn.Run.lean ====
/- The attention kernel's body on one block: run from the inputs' contents, it leaves the block of the result that the fold over
   the chunks gives. -/
module

public import proofs.«01_k».proof.Proof.Attn.Inv
public import Idealize.ShloMosaic.Lib.VecWindow

@[expose] public section

set_option maxRecDepth 16384
set_option maxHeartbeats 4000000

noncomputable section

namespace Cert.Proof.Attn

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F]

local notation "𝕄G" => MT nD τ sig Unit (Elt F) ℕ (UR sig nD τ) ℕ

/-- Head `h`'s queries as the body loads them. -/
abbrev rq0 (arg2 : Memref sig .tc .vmem S1x4x512x128 .bf16) (harg2 : arg2.IsWhole) (x0 : Vec F S1x4x512x128 .bf16) : FVec F S512x128 .bf16 :=
  k0_pay36 (arg2.view.readAt (Elt F) (Rect.unit (s := S1x4x512x128) ![0, 0, 0, 0] S1x1x512x128.size inb_S1x4x512x128_S1x1x512x128_0_0_0_0).toLoadRect (harg2.unread x0))
abbrev rq1 (arg2 : Memref sig .tc .vmem S1x4x512x128 .bf16) (harg2 : arg2.IsWhole) (x0 : Vec F S1x4x512x128 .bf16) : FVec F S512x128 .bf16 :=
  k0_pay37 (arg2.view.readAt (Elt F) (Rect.unit (s := S1x4x512x128) ![0, 1, 0, 0] S1x1x512x128.size inb_S1x4x512x128_S1x1x512x128_0_1_0_0).toLoadRect (harg2.unread x0))
abbrev rq2 (arg2 : Memref sig .tc .vmem S1x4x512x128 .bf16) (harg2 : arg2.IsWhole) (x0 : Vec F S1x4x512x128 .bf16) : FVec F S512x128 .bf16 :=
  k0_pay38 (arg2.view.readAt (Elt F) (Rect.unit (s := S1x4x512x128) ![0, 2, 0, 0] S1x1x512x128.size inb_S1x4x512x128_S1x1x512x128_0_2_0_0).toLoadRect (harg2.unread x0))
abbrev rq3 (arg2 : Memref sig .tc .vmem S1x4x512x128 .bf16) (harg2 : arg2.IsWhole) (x0 : Vec F S1x4x512x128 .bf16) : FVec F S512x128 .bf16 :=
  k0_pay39 (arg2.view.readAt (Elt F) (Rect.unit (s := S1x4x512x128) ![0, 3, 0, 0] S1x1x512x128.size inb_S1x4x512x128_S1x1x512x128_0_3_0_0).toLoadRect (harg2.unread x0))

theorem rq_eq (arg2 : Memref sig .tc .vmem S1x4x512x128 .bf16) (harg2 : arg2.IsWhole) (x0 : Vec F S1x4x512x128 .bf16) :
    qs (rq0 arg2 harg2 x0) (rq1 arg2 harg2 x0) (rq2 arg2 harg2 x0) (rq3 arg2 harg2 x0) = qh x0 := by
  unfold rq0 rq1 rq2 rq3
  rw [read_q, read_q, read_q, read_q]
  funext h
  fin_cases h <;> rfl

/-- Before the loop the second score buffer holds the scores of the first chunk of latent keys. -/
theorem entry (arg2 : Memref sig .tc .vmem S1x4x512x128 .bf16) (harg2 : arg2.IsWhole) (arg5 : Memref sig .tc .vmem S1x4x4096x128 .bf16)
    (harg5 : arg5.IsWhole) (arg9 : Memref sig .tc .vmem S4x512x512 .f32) (x0 : Vec F S1x4x512x128 .bf16) (x3 : Vec F S1x4x4096x128 .bf16)
    (f : BufTy.Contents (Elt F) arg9.view.ty) :
    Holds arg9 (arg9.view.writes (Elt F) f
      [⟨R3, k0_pay55 (rq3 arg2 harg2 x0) (arg5.view.readAt (Elt F) (Rect.unit (s := S1x4x4096x128) ![0, 3, 0, 0] S1x1x512x128.size inb_S1x4x4096x128_S1x1x512x128_0_3_0_0).toLoadRect (harg5.unread x3))⟩,
       ⟨R2, k0_pay54 (rq2 arg2 harg2 x0) (arg5.view.readAt (Elt F) (Rect.unit (s := S1x4x4096x128) ![0, 2, 0, 0] S1x1x512x128.size inb_S1x4x4096x128_S1x1x512x128_0_2_0_0).toLoadRect (harg5.unread x3))⟩,
       ⟨R1, k0_pay53 (rq1 arg2 harg2 x0) (arg5.view.readAt (Elt F) (Rect.unit (s := S1x4x4096x128) ![0, 1, 0, 0] S1x1x512x128.size inb_S1x4x4096x128_S1x1x512x128_0_1_0_0).toLoadRect (harg5.unread x3))⟩,
       ⟨R0, k0_pay52 (rq0 arg2 harg2 x0) (arg5.view.readAt (Elt F) (Rect.unit (s := S1x4x4096x128) ![0, 0, 0, 0] S1x1x512x128.size inb_S1x4x4096x128_S1x1x512x128_0_0_0_0).toLoadRect (harg5.unread x3))⟩])
      fun h => sc (qs (rq0 arg2 harg2 x0) (rq1 arg2 harg2 x0) (rq2 arg2 harg2 x0) (rq3 arg2 harg2 x0) h) (kL x3 h (2 * 0)) := by
  obtain ⟨h0, h1, h2, h3⟩ := back_at (F := F) arg9.view f _ _ _ _ []
  refine ⟨h0.trans ?_, h1.trans ?_, h2.trans ?_, h3.trans ?_⟩ <;> rw [read_kL (F := F) harg5] <;> rfl

/-- From the blocks of its arguments the body leaves `blk` of them in the result's buffer, its inputs as they were. -/
theorem run (c : Dev nD) (i : grid0.Coords) (arg2 : Memref sig .tc .vmem S1x4x512x128 .bf16) (harg2 : arg2.IsWhole) (arg3 : Memref sig .tc .vmem S1x4x256x128 .bf16) (harg3 : arg3.IsWhole) (arg4 : Memref sig .tc .vmem S1x256x256 .bf16) (harg4 : arg4.IsWhole) (arg5 : Memref sig .tc .vmem S1x4x4096x128 .bf16) (harg5 : arg5.IsWhole) (arg6 : Memref sig .tc .vmem S1x256x4096 .bf16) (harg6 : arg6.IsWhole) (arg7 : Memref sig .tc .vmem S1x512x256 .bf16) (harg7 : arg7.IsWhole) (arg8 : Memref sig .tc .vmem S4x512x512 .f32) (harg8 : arg8.IsWhole) (arg9 : Memref sig .tc .vmem S4x512x512 .f32) (harg9 : arg9.IsWhole)
    (x0 : Vec F S1x4x512x128 .bf16) (x1 : Vec F S1x4x256x128 .bf16) (x2 : Vec F S1x256x256 .bf16)
    (x3 : Vec F S1x4x4096x128 .bf16) (x4 : Vec F S1x256x4096 .bf16) (E : Set ℕ) (K : PUnit → sProp 𝕄G) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (blk x0 x1 x2 x3 x4)
            ∗ (∃ d, owns (c : Thread nD τ) arg8 fullShare d) ∗ (∃ d, owns (c : Thread nD τ) arg9 fullShare d)) -∗ K ⟨⟩))
      ⊢ wp frame (wpE (defs₀ (F := F)) Variants.none c none) E
          (cc0_attention i arg2 harg2 arg3 harg3 arg4 harg4 arg5 harg5 arg6 harg6 arg7 harg7 arg8 harg8 arg9 harg9) K := by
  simp only [cc0_attention_eq_skeleton]; unfold cc0_attention_skel
  simp only [k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩,
    ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  have hE := entry arg2 harg2 arg5 harg5 arg9 x0 x3 arg9.view.junk
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full arg7.view f5 _ _ []).trans ?_
    clear hf0 hf1 hf2 hf3 hf4 hE
    have q0 : ∀ inb, arg2.view.readAt (Elt F) (Rect.unit (s := S1x4x512x128) ![0, 0, 0, 0] S1x1x512x128.size inb).toLoadRect (harg2.unread x0) = qAt x0 0 := fun inb => read_q harg2 x0 _ inb
    have c0 : ∀ inb, arg3.view.readAt (Elt F) (Rect.unit (s := S1x4x256x128) ![0, 0, 0, 0] S1x1x256x128.size inb).toLoadRect (harg3.unread x1) = kCAt x1 0 := fun inb => read_kC harg3 x1 _ inb
    have d0 : ∀ inb, arg4.view.readAt (Elt F) (Rect.unit (s := S1x256x256) ![0, 0, 0] S1x64x256.size inb).toLoadRect (harg4.unread x2) = vCAt x2 0 := fun inb => read_vC harg4 x2 _ inb
    have k0 : ∀ inb, arg5.view.readAt (Elt F) (Rect.unit (s := S1x4x4096x128) ![0, 0, 3584, 0] S1x1x512x128.size inb).toLoadRect (harg5.unread x3) = kL x3 0 7 := fun inb => read_kL harg5 x3 _ inb
    have v0 : ∀ inb, arg6.view.readAt (Elt F) (Rect.unit (s := S1x256x4096) ![0, 0, 3072] S1x64x512.size inb).toLoadRect (harg6.unread x4) = vL x4 0 6 := fun inb => read_vL harg6 x4 _ inb
    have w0 : ∀ inb, arg6.view.readAt (Elt F) (Rect.unit (s := S1x256x4096) ![0, 0, 3584] S1x64x512.size inb).toLoadRect (harg6.unread x4) = vL x4 0 7 := fun inb => read_vL harg6 x4 _ inb
    have q1 : ∀ inb, arg2.view.readAt (Elt F) (Rect.unit (s := S1x4x512x128) ![0, 1, 0, 0] S1x1x512x128.size inb).toLoadRect (harg2.unread x0) = qAt x0 1 := fun inb => read_q harg2 x0 _ inb
    have c1 : ∀ inb, arg3.view.readAt (Elt F) (Rect.unit (s := S1x4x256x128) ![0, 1, 0, 0] S1x1x256x128.size inb).toLoadRect (harg3.unread x1) = kCAt x1 1 := fun inb => read_kC harg3 x1 _ inb
    have d1 : ∀ inb, arg4.view.readAt (Elt F) (Rect.unit (s := S1x256x256) ![0, 64, 0] S1x64x256.size inb).toLoadRect (harg4.unread x2) = vCAt x2 64 := fun inb => read_vC harg4 x2 _ inb
    have k1 : ∀ inb, arg5.view.readAt (Elt F) (Rect.unit (s := S1x4x4096x128) ![0, 1, 3584, 0] S1x1x512x128.size inb).toLoadRect (harg5.unread x3) = kL x3 1 7 := fun inb => read_kL harg5 x3 _ inb
    have v1 : ∀ inb, arg6.view.readAt (Elt F) (Rect.unit (s := S1x256x4096) ![0, 64, 3072] S1x64x512.size inb).toLoadRect (harg6.unread x4) = vL x4 1 6 := fun inb => read_vL harg6 x4 _ inb
    have w1 : ∀ inb, arg6.view.readAt (Elt F) (Rect.unit (s := S1x256x4096) ![0, 64, 3584] S1x64x512.size inb).toLoadRect (harg6.unread x4) = vL x4 1 7 := fun inb => read_vL harg6 x4 _ inb
    have q2 : ∀ inb, arg2.view.readAt (Elt F) (Rect.unit (s := S1x4x512x128) ![0, 2, 0, 0] S1x1x512x128.size inb).toLoadRect (harg2.unread x0) = qAt x0 2 := fun inb => read_q harg2 x0 _ inb
    have c2 : ∀ inb, arg3.view.readAt (Elt F) (Rect.unit (s := S1x4x256x128) ![0, 2, 0, 0] S1x1x256x128.size inb).toLoadRect (harg3.unread x1) = kCAt x1 2 := fun inb => read_kC harg3 x1 _ inb
    have d2 : ∀ inb, arg4.view.readAt (Elt F) (Rect.unit (s := S1x256x256) ![0, 128, 0] S1x64x256.size inb).toLoadRect (harg4.unread x2) = vCAt x2 128 := fun inb => read_vC harg4 x2 _ inb
    have k2 : ∀ inb, arg5.view.readAt (Elt F) (Rect.unit (s := S1x4x4096x128) ![0, 2, 3584, 0] S1x1x512x128.size inb).toLoadRect (harg5.unread x3) = kL x3 2 7 := fun inb => read_kL harg5 x3 _ inb
    have v2 : ∀ inb, arg6.view.readAt (Elt F) (Rect.unit (s := S1x256x4096) ![0, 128, 3072] S1x64x512.size inb).toLoadRect (harg6.unread x4) = vL x4 2 6 := fun inb => read_vL harg6 x4 _ inb
    have w2 : ∀ inb, arg6.view.readAt (Elt F) (Rect.unit (s := S1x256x4096) ![0, 128, 3584] S1x64x512.size inb).toLoadRect (harg6.unread x4) = vL x4 2 7 := fun inb => read_vL harg6 x4 _ inb
    have q3 : ∀ inb, arg2.view.readAt (Elt F) (Rect.unit (s := S1x4x512x128) ![0, 3, 0, 0] S1x1x512x128.size inb).toLoadRect (harg2.unread x0) = qAt x0 3 := fun inb => read_q harg2 x0 _ inb
    have c3 : ∀ inb, arg3.view.readAt (Elt F) (Rect.unit (s := S1x4x256x128) ![0, 3, 0, 0] S1x1x256x128.size inb).toLoadRect (harg3.unread x1) = kCAt x1 3 := fun inb => read_kC harg3 x1 _ inb
    have d3 : ∀ inb, arg4.view.readAt (Elt F) (Rect.unit (s := S1x256x256) ![0, 192, 0] S1x64x256.size inb).toLoadRect (harg4.unread x2) = vCAt x2 192 := fun inb => read_vC harg4 x2 _ inb
    have k3 : ∀ inb, arg5.view.readAt (Elt F) (Rect.unit (s := S1x4x4096x128) ![0, 3, 3584, 0] S1x1x512x128.size inb).toLoadRect (harg5.unread x3) = kL x3 3 7 := fun inb => read_kL harg5 x3 _ inb
    have v3 : ∀ inb, arg6.view.readAt (Elt F) (Rect.unit (s := S1x256x4096) ![0, 192, 3072] S1x64x512.size inb).toLoadRect (harg6.unread x4) = vL x4 3 6 := fun inb => read_vL harg6 x4 _ inb
    have w3 : ∀ inb, arg6.view.readAt (Elt F) (Rect.unit (s := S1x256x4096) ![0, 192, 3584] S1x64x512.size inb).toLoadRect (harg6.unread x4) = vL x4 3 7 := fun inb => read_vL harg6 x4 _ inb
    have hL5 : Holds arg9 fL1 fun h => sc (qh x0 h) (kL x3 h 6) := by rw [← rq_eq arg2 harg2 x0]; exact hL4
    obtain ⟨g0, g1, g2, g3⟩ := hL5
    have hN : Scf.trips 0#32 (Scalar.addi 0#32 3#32) 1#32 = 3 := by decide
    have hq : qs (k0_pay36 (qAt x0 0)) (k0_pay37 (qAt x0 1)) (k0_pay38 (qAt x0 2)) (k0_pay39 (qAt x0 3)) = qh x0 := by
      funext h; fin_cases h <;> rfl
    have hc : untup
        (k0_pay58 k0_pay40 (k0_pay48 (qAt x0 0) (kCAt x1 0)),
          k0_pay60 k0_pay41 k0_pay56 (k0_pay57 (k0_pay48 (qAt x0 0) (kCAt x1 0)))
            (k0_pay58 k0_pay40 (k0_pay48 (qAt x0 0) (kCAt x1 0)))
            (k0_pay59 k0_pay40 (k0_pay48 (qAt x0 0) (kCAt x1 0))) (vCAt x2 0),
          k0_pay62 k0_pay42 (k0_pay49 (k0_pay37 (qAt x0 1)) (kCAt x1 1)),
          k0_pay63 k0_pay42 k0_pay43 k0_pay56 (k0_pay49 (k0_pay37 (qAt x0 1)) (kCAt x1 1)) (vCAt x2 64),
          k0_pay65 k0_pay44 (k0_pay50 (k0_pay38 (qAt x0 2)) (kCAt x1 2)),
          k0_pay68 k0_pay45 k0_pay56 (k0_pay66 k0_pay44 (k0_pay50 (k0_pay38 (qAt x0 2)) (kCAt x1 2)))
            (k0_pay67 k0_pay44 (k0_pay50 (k0_pay38 (qAt x0 2)) (kCAt x1 2))) (vCAt x2 128),
          k0_pay70 k0_pay46 (k0_pay51 (k0_pay39 (qAt x0 3)) (kCAt x1 3)),
          k0_pay71 k0_pay46 k0_pay47 k0_pay56 (k0_pay51 (k0_pay39 (qAt x0 3)) (kCAt x1 3)) (vCAt x2 192)) = ctx x0 x1 x2 := by
      funext h; fin_cases h <;> rfl
    sl_unfold_run_names
    simp only [(back arg8.view _ _ _ _ _).1, (back arg8.view _ _ _ _ _).2.1, (back arg8.view _ _ _ _ _).2.2.1, (back arg8.view _ _ _ _ _).2.2.2, (backC arg8.view _ _ _ _ _).1, (backC arg8.view _ _ _ _ _).2.1, (backC arg8.view _ _ _ _ _).2.2.1, (backC arg8.view _ _ _ _ _).2.2.2,
      q0, q1, q2, q3, c0, c1, c2, c3, d0, d1, d2, d3, k0, k1, k2, k3, v0, v1, v2, v3, w0, w1, w2, w3, g0, g1, g2, g3]
    rw [hq, hc, hN]
    rfl
  isplitl [HS0]
  · iexists _, _; isplitr; swap; · iexact HS0
    ipureintro; rfl
  iexists _, _; isplitr; swap; · iexact HS1
  ipureintro; rfl

end Cert.Proof.Attn

end
-- ==== Proof.Attn.Frame.lean ====
/- The attention kernel's launch: every point of the grid leaves its block of the result, so after the run the result array is
   `attn` of the argument arrays, the arguments are unchanged and every semaphore counter is zero. -/
module

public import proofs.«01_k».proof.Proof.Attn.Run
public import proofs.«01_k».proof.Proof.Gen.AttnIdeal.Frame.Runs
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Proof.Attn

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves in the result's staging buffer. -/
def left (c : Dev nD) (t : Fin cfg0.N) : Vec F S1x512x256 .bf16 :=
  blk (iblk m c 0 t) (iblk m c 1 t) (iblk m c 2 t) (iblk m c 3 t) (iblk m c 4 t)

/-- The pipeline's proof data: each input's buffer keeps its block, the result's holds `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left m c t
  Φ _ := Pipeline.ΦA spec0 c
  q _ := fullShare
  owed _ := 0

theorem arrays (c : Dev nD) (w : Fin cfg0.W) : (dats m 0 c).A w = V m c (Pipeline.arrRef spec0 w) := by dsimp only [dats]

theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = left m c t := by dsimp only [dats]

theorem bef0 (c : Dev nD) (t : Fin cfg0.N) (d) : (dats m 0 c).before 0 t d = iblk m c 0 t :=
  before0_0_of m (dats m 0 c) (arrays m c 0) (aft0 m c) t d
theorem bef1 (c : Dev nD) (t : Fin cfg0.N) (d) : (dats m 0 c).before 1 t d = iblk m c 1 t :=
  before0_1_of m (dats m 0 c) (arrays m c 1) (aft1 m c) t d
theorem bef2 (c : Dev nD) (t : Fin cfg0.N) (d) : (dats m 0 c).before 2 t d = iblk m c 2 t :=
  before0_2_of m (dats m 0 c) (arrays m c 2) (aft2 m c) t d
theorem bef3 (c : Dev nD) (t : Fin cfg0.N) (d) : (dats m 0 c).before 3 t d = iblk m c 3 t :=
  before0_3_of m (dats m 0 c) (arrays m c 3) (aft3 m c) t d
theorem bef4 (c : Dev nD) (t : Fin cfg0.N) (d) : (dats m 0 c).before 4 t d = iblk m c 4 t :=
  before0_4_of m (dats m 0 c) (arrays m c 4) (aft4 m c) t d

/-- What the body has at point `t`, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it gives back. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point, from the run of one block. -/
theorem at_point (c : Dev nD) (t : Fin cfg0.N) :
    pre m c t ⊢ wp frame (wpE (defs₀ (F := F)) Variants.none c none) Set.univ (bodyAt0 t) (fun _ => post m c t) := by
  unfold pre post bodyAt0
  simp only [bef0, bef1, bef2, bef3, bef4]
  rw [show (dats m 0 c).Φ t.succ = (dats m 0 c).Φ t.castSucc from rfl,
    show (dats m 0 c).owesAt () t.succ = (dats m 0 c).owesAt () t.castSucc from rfl, aft0, aft1, aft2, aft3, aft4, aft5]
  rw [show (dats m 0 c).Φ t.castSucc = Pipeline.ΦA spec0 c from rfl, PhiA0_eq]
  unfold left
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ _ _ _ _ (iblk m c 0 t) (iblk m c 1 t) (iblk m c 2 t) (iblk m c 3 t)
    (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (at_point m c t) rfl .rfl fun _ => .rfl

set_option backward.isDefEq.respectTransparency.types false in
/-- The launch: the arrays as the proof data say, the counters at zero. -/
theorem launched : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hΦ := fun _ _ => rfl)

/-- The kernel leaves its arguments and the counters. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays m) ((θ_run defs _ _).mono (fun _ h => h.1) (launched m ρ)))
    ((θ_run defs _ _).mono (fun _ h => h.2) (launched m ρ))

/-- The blocks of the arguments that batch `b` and block `t` of queries are computed from. -/
def qB (q : Vec F S4x4x4096x128 .bf16) (b : Fin 4) (t : ℕ) : Vec F S1x4x512x128 .bf16 :=
  fun j => q (ix4 b (j 1) ⟨(512 * t + (j 2).val) % 4096, Nat.mod_lt _ (by norm_num)⟩ (j 3))
def kcB (kc : Vec F S4x4x256x128 .bf16) (b : Fin 4) : Vec F S1x4x256x128 .bf16 := fun j => kc (ix4 b (j 1) (j 2) (j 3))
def vcB (vc : Vec F S4x256x256 .bf16) (b : Fin 4) : Vec F S1x256x256 .bf16 := fun j => vc (ix3 b (j 1) (j 2))
def klB (kl : Vec F S4x4x4096x128 .bf16) (b : Fin 4) : Vec F S1x4x4096x128 .bf16 := fun j => kl (ix4 b (j 1) (j 2) (j 3))
def vlB (vl : Vec F S4x256x4096 .bf16) (b : Fin 4) : Vec F S1x256x4096 .bf16 := fun j => vl (ix3 b (j 1) (j 2))

/-- The result from the arguments, block by block. -/
def attn (q : Vec F S4x4x4096x128 .bf16) (kc : Vec F S4x4x256x128 .bf16) (vc : Vec F S4x256x256 .bf16)
    (kl : Vec F S4x4x4096x128 .bf16) (vl : Vec F S4x256x4096 .bf16) : Vec F S4x4096x256 .bf16 :=
  fun i => blk (qB q (i 0) ((i 1).val / 512)) (kcB kc (i 0)) (vcB vc (i 0)) (klB kl (i 0)) (vlB vl (i 0))
    (ix3 0 ⟨(i 1).val % 512, Nat.mod_lt _ (by norm_num)⟩ (i 2))

theorem ind0 : ∀ t : Fin cfg0.N, win0_0.index t = ![(grid0.coords t 0).val, 0, (grid0.coords t 1).val, 0] :=
  (by decide +kernel : ∀ t : Fin grid0.N, win0_0.index t = ![(grid0.coords t 0).val, 0, (grid0.coords t 1).val, 0])
theorem ind1 : ∀ t : Fin cfg0.N, win0_1.index t = ![(grid0.coords t 0).val, 0, 0, 0] :=
  (by decide +kernel : ∀ t : Fin grid0.N, win0_1.index t = ![(grid0.coords t 0).val, 0, 0, 0])
theorem ind2 : ∀ t : Fin cfg0.N, win0_2.index t = ![(grid0.coords t 0).val, 0, 0] :=
  (by decide +kernel : ∀ t : Fin grid0.N, win0_2.index t = ![(grid0.coords t 0).val, 0, 0])
theorem ind3 : ∀ t : Fin cfg0.N, win0_3.index t = ![(grid0.coords t 0).val, 0, 0, 0] :=
  (by decide +kernel : ∀ t : Fin grid0.N, win0_3.index t = ![(grid0.coords t 0).val, 0, 0, 0])
theorem ind4 : ∀ t : Fin cfg0.N, win0_4.index t = ![(grid0.coords t 0).val, 0, 0] :=
  (by decide +kernel : ∀ t : Fin grid0.N, win0_4.index t = ![(grid0.coords t 0).val, 0, 0])
theorem ind5 : ∀ t : Fin cfg0.N, win0_5.index t = ![(grid0.coords t 0).val, (grid0.coords t 1).val, 0] :=
  (by decide +kernel : ∀ t : Fin grid0.N, win0_5.index t = ![(grid0.coords t 0).val, (grid0.coords t 1).val, 0])

theorem blk0 (c : Dev nD) (t : Fin cfg0.N) :
    (iblk m c 0 t : Vec F S1x4x512x128 .bf16) = qB (m ((c : Thread nD τ).loc main_arg0)) (grid0.coords t 0) (grid0.coords t 1).val := by
  have h1 : (grid0.coords t 1).val < 8 := (grid0.coords t 1).isLt
  funext j
  have j0 : (j 0).val < 1 := (j 0).isLt
  have j2 : (j 2).val < 512 := (j 2).isLt
  unfold iblk qB
  rw [View.read_apply]
  refine congrArg (m ((c : Thread nD τ).loc main_arg0)) (funext fun a => Fin.ext ?_)
  match a with
  | ⟨0, _⟩ => show win0_0.index t 0 * 1 + 1 * (j 0).val = (grid0.coords t 0).val; rw [ind0]; simp
  | ⟨1, _⟩ => show win0_0.index t 1 * 4 + 1 * (j 1).val = (j 1).val; rw [ind0]; simp
  | ⟨2, _⟩ => show win0_0.index t 2 * 512 + 1 * (j 2).val = (512 * (grid0.coords t 1).val + (j 2).val) % 4096; rw [ind0]; simp; omega
  | ⟨3, _⟩ => show win0_0.index t 3 * 128 + 1 * (j 3).val = (j 3).val; rw [ind0]; simp

theorem blk1 (c : Dev nD) (t : Fin cfg0.N) :
    (iblk m c 1 t : Vec F S1x4x256x128 .bf16) = kcB (m ((c : Thread nD τ).loc main_arg1)) (grid0.coords t 0) := by
  funext j
  have j0 : (j 0).val < 1 := (j 0).isLt
  unfold iblk kcB
  rw [View.read_apply]
  refine congrArg (m ((c : Thread nD τ).loc main_arg1)) (funext fun a => Fin.ext ?_)
  match a with
  | ⟨0, _⟩ => show win0_1.index t 0 * 1 + 1 * (j 0).val = (grid0.coords t 0).val; rw [ind1]; simp
  | ⟨1, _⟩ => show win0_1.index t 1 * 4 + 1 * (j 1).val = (j 1).val; rw [ind1]; simp
  | ⟨2, _⟩ => show win0_1.index t 2 * 256 + 1 * (j 2).val = (j 2).val; rw [ind1]; simp
  | ⟨3, _⟩ => show win0_1.index t 3 * 128 + 1 * (j 3).val = (j 3).val; rw [ind1]; simp

theorem blk2 (c : Dev nD) (t : Fin cfg0.N) :
    (iblk m c 2 t : Vec F S1x256x256 .bf16) = vcB (m ((c : Thread nD τ).loc main_arg2)) (grid0.coords t 0) := by
  funext j
  have j0 : (j 0).val < 1 := (j 0).isLt
  unfold iblk vcB
  rw [View.read_apply]
  refine congrArg (m ((c : Thread nD τ).loc main_arg2)) (funext fun a => Fin.ext ?_)
  match a with
  | ⟨0, _⟩ => show win0_2.index t 0 * 1 + 1 * (j 0).val = (grid0.coords t 0).val; rw [ind2]; simp
  | ⟨1, _⟩ => show win0_2.index t 1 * 256 + 1 * (j 1).val = (j 1).val; rw [ind2]; simp
  | ⟨2, _⟩ => show win0_2.index t 2 * 256 + 1 * (j 2).val = (j 2).val; rw [ind2]; simp

theorem blk3 (c : Dev nD) (t : Fin cfg0.N) :
    (iblk m c 3 t : Vec F S1x4x4096x128 .bf16) = klB (m ((c : Thread nD τ).loc main_arg3)) (grid0.coords t 0) := by
  funext j
  have j0 : (j 0).val < 1 := (j 0).isLt
  unfold iblk klB
  rw [View.read_apply]
  refine congrArg (m ((c : Thread nD τ).loc main_arg3)) (funext fun a => Fin.ext ?_)
  match a with
  | ⟨0, _⟩ => show win0_3.index t 0 * 1 + 1 * (j 0).val = (grid0.coords t 0).val; rw [ind3]; simp
  | ⟨1, _⟩ => show win0_3.index t 1 * 4 + 1 * (j 1).val = (j 1).val; rw [ind3]; simp
  | ⟨2, _⟩ => show win0_3.index t 2 * 4096 + 1 * (j 2).val = (j 2).val; rw [ind3]; simp
  | ⟨3, _⟩ => show win0_3.index t 3 * 128 + 1 * (j 3).val = (j 3).val; rw [ind3]; simp

theorem blk4 (c : Dev nD) (t : Fin cfg0.N) :
    (iblk m c 4 t : Vec F S1x256x4096 .bf16) = vlB (m ((c : Thread nD τ).loc main_arg4)) (grid0.coords t 0) := by
  funext j
  have j0 : (j 0).val < 1 := (j 0).isLt
  unfold iblk vlB
  rw [View.read_apply]
  refine congrArg (m ((c : Thread nD τ).loc main_arg4)) (funext fun a => Fin.ext ?_)
  match a with
  | ⟨0, _⟩ => show win0_4.index t 0 * 1 + 1 * (j 0).val = (grid0.coords t 0).val; rw [ind4]; simp
  | ⟨1, _⟩ => show win0_4.index t 1 * 256 + 1 * (j 1).val = (j 1).val; rw [ind4]; simp
  | ⟨2, _⟩ => show win0_4.index t 2 * 4096 + 1 * (j 2).val = (j 2).val; rw [ind4]; simp

/-- The result array after the run. -/
theorem result (c : Dev nD) : (dats m 0 c).arrAt 5 cfg0.N
    = attn (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [aft5]
  unfold left
  rw [blk0, blk1, blk2, blk3, blk4]
  have y0 : (y 0).val < 1 := (y 0).isLt
  have y1 : (y 1).val < 512 := (y 1).isLt
  have e0 : ((win0_5.blk t).view.emb y 0) = grid0.coords t 0 := by
    apply Fin.ext; show win0_5.index t 0 * 1 + 1 * (y 0).val = (grid0.coords t 0).val; rw [ind5]; simp
  have e1 : ((win0_5.blk t).view.emb y 1).val = 512 * (grid0.coords t 1).val + (y 1).val := by
    show win0_5.index t 1 * 512 + 1 * (y 1).val = _; rw [ind5]; simp; omega
  have e2 : ((win0_5.blk t).view.emb y 2) = y 2 := by
    apply Fin.ext; show win0_5.index t 2 * 256 + 1 * (y 2).val = (y 2).val; rw [ind5]; simp
  unfold attn
  rw [e0, e2]
  have d : ((win0_5.blk t).view.emb y 1).val / 512 = (grid0.coords t 1).val := by rw [e1]; omega
  have r : ((win0_5.blk t).view.emb y 1).val % 512 = (y 1).val := by rw [e1]; omega
  simp only [d, r]
  congr 1
  funext a
  match a with
  | ⟨0, _⟩ => apply Fin.ext; show (y 0).val = 0; omega
  | ⟨1, _⟩ => rfl
  | ⟨2, _⟩ => rfl

/-- The kernel run: the result is `attn` of the arguments, which are unchanged. -/
theorem value : θ_run defs (onTc (τ := τ) (main (F := F))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (result m c),
      ((h.1 c).1 0).trans (((dats m 0 c).arrAt_in 0 rfl _).trans ((arrays m c 0).trans (V_main_arg0 m c))),
      ((h.1 c).1 1).trans (((dats m 0 c).arrAt_in 1 rfl _).trans ((arrays m c 1).trans (V_main_arg1 m c))),
      ((h.1 c).1 2).trans (((dats m 0 c).arrAt_in 2 rfl _).trans ((arrays m c 2).trans (V_main_arg2 m c))),
      ((h.1 c).1 3).trans (((dats m 0 c).arrAt_in 3 rfl _).trans ((arrays m c 3).trans (V_main_arg3 m c))),
      ((h.1 c).1 4).trans (((dats m 0 c).arrAt_in 4 rfl _).trans ((arrays m c 4).trans (V_main_arg4 m c)))⟩)
    (launched m ρ)

end Cert.Proof.Attn

end
-- ==== Proof.Math.Softmax.lean ====
/- The softmax-weighted sum of extended reals computed chunk by chunk with a running maximum, and the same sum at once:
   scores are real numbers, values are any extended reals. Nothing here is about a program. -/
module

public import Idealize.ShloMosaic.PureOps.Ideal
public import Mathlib.Data.EReal.Inv
public import Mathlib.Analysis.SpecialFunctions.Pow.Real

@[expose] public section

noncomputable section

namespace Cert.Proof.Softmax

open Idealize.ShloMosaic

/-- A nonnegative real factor passes through a finite sum of extended reals. -/
theorem mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc)
      (EReal.coe_ne_top c), ih]

/-- A finite sum of reals read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, at least one, is one of them. -/
theorem fold_max {n : ℕ} (hn : 0 < n) (f : Fin n → ℝ) :
    ∃ x : Fin n, Finset.fold max ⊥ (fun i => (f i : EReal)) Finset.univ = (f x : EReal) := by
  haveI : Nonempty (Fin n) := ⟨⟨0, hn⟩⟩
  obtain ⟨x, -, hx⟩ := Finset.exists_mem_eq_sup (Finset.univ : Finset (Fin n)) Finset.univ_nonempty (fun i => (f i : EReal))
  exact ⟨x, hx⟩

/-- A power of two, an extended real. -/
def pow2 (x : ℝ) : EReal := (((2 : ℝ) ^ x : ℝ) : EReal)

theorem exp2_coe (x : ℝ) : Ideal.exp2 (x : EReal) = pow2 x := rfl

/-- The values of the first `n` keys weighted by powers of two of their scores, shifted by `μ`. -/
def part (S : ℕ → ℝ) (V : ℕ → EReal) (μ : ℝ) (n : ℕ) : EReal := ∑ k ∈ Finset.range n, V k * pow2 (S k - μ)

/-- Shifting by `μ'` instead of `μ`. -/
theorem part_shift (S : ℕ → ℝ) (V : ℕ → EReal) (μ μ' : ℝ) (n : ℕ) : pow2 (μ - μ') * part S V μ n = part S V μ' n := by
  unfold part
  rw [pow2, mul_sum _ (by positivity)]
  refine Finset.sum_congr rfl fun k _ => ?_
  rw [mul_left_comm, pow2, pow2, ← EReal.coe_mul, ← Real.rpow_add (by norm_num)]
  ring_nf

/-- The state after the first `n` keys: the maximum is some real `μ`, the sums are shifted by it. -/
def State {R : Type*} (S : ℕ → ℝ) (V : R → ℕ → EReal) (n : ℕ) (m : EReal) (acc : R → EReal) : Prop :=
  ∃ μ : ℝ, m = μ ∧ ∀ r, acc r = part S (V r) μ n

/-- A chunk of `N` further keys. -/
theorem State.next {R : Type*} {S : ℕ → ℝ} {V : R → ℕ → EReal} {n : ℕ} {m : EReal} {acc : R → EReal} (N : ℕ) (hN : 0 < N)
    (h : State S V n m acc) (m' : EReal) (acc' : R → EReal)
    (hm : m' = max m (Finset.fold max ⊥ (fun x : Fin N => (S (n + x) : EReal)) Finset.univ))
    (ha : ∀ r, acc' r = Ideal.exp2 (m - m') * acc r
      + ∑ x : Fin N, V r (n + x) * Ideal.exp2 ((S (n + x) : EReal) - m')) :
    State S V (n + N) m' acc' := by
  obtain ⟨μ, rfl, hacc⟩ := h
  obtain ⟨x, hx⟩ := fold_max hN fun x : Fin N => S (n + x)
  have e : m' = ((max μ (S (n + x)) : ℝ) : EReal) := by
    rw [hm, hx]; exact (EReal.coe_strictMono.monotone.map_max).symm
  refine ⟨_, e, fun r => ?_⟩
  rw [ha, hacc, e, ← EReal.coe_sub, exp2_coe, part_shift]
  unfold part
  rw [Finset.sum_range_add, Finset.sum_range (n := N)]
  rfl

/-- The first chunk, from the maximum `-∞` and the sums zero. -/
theorem State.first {R : Type*} {S : ℕ → ℝ} {V : R → ℕ → EReal} (N : ℕ) (hN : 0 < N) (m' : EReal) (acc' : R → EReal)
    (hm : m' = max ⊥ (Finset.fold max ⊥ (fun x : Fin N => (S x : EReal)) Finset.univ))
    (ha : ∀ r, acc' r = Ideal.exp2 (⊥ - m') * 0 + ∑ x : Fin N, V r x * Ideal.exp2 ((S x : EReal) - m')) :
    State S V N m' acc' := by
  obtain ⟨x, hx⟩ := fold_max hN fun x : Fin N => S x
  have e : m' = (S x : EReal) := by rw [hm, hx]; exact max_eq_right bot_le
  refine ⟨_, e, fun r => ?_⟩
  rw [ha, e, mul_zero, zero_add]
  unfold part
  rw [Finset.sum_range]
  rfl

/-- A key's softmax weight among the first `n`, to the base two. -/
def soft (S : ℕ → ℝ) (n k : ℕ) : ℝ := (2 : ℝ) ^ S k / ∑ j ∈ Finset.range n, (2 : ℝ) ^ S j

/-- The softmax-weighted sum of the values of the first `n` keys. -/
def mean (S : ℕ → ℝ) (V : ℕ → EReal) (n : ℕ) : EReal := ∑ k ∈ Finset.range n, (soft S n k : EReal) * V k

theorem sum_pos (S : ℕ → ℝ) (n : ℕ) (hn : 0 < n) : 0 < ∑ j ∈ Finset.range n, (2 : ℝ) ^ S j :=
  Finset.sum_pos (fun j _ => by positivity) ⟨0, Finset.mem_range.mpr hn⟩

/-- The weighted sums over the sum of the weights is the softmax-weighted sum. -/
theorem State.quot {R : Type*} {S : ℕ → ℝ} {V : R → ℕ → EReal} {n : ℕ} {m : EReal} {acc : R → EReal} (hn : 0 < n)
    (h : State S V n m acc) (o : R) (ho : ∀ k, V o k = 1) (r : R) : Ideal.div (acc r) (acc o) = mean S (V r) n := by
  obtain ⟨μ, -, hacc⟩ := h
  have hl : acc o = ((∑ j ∈ Finset.range n, (2 : ℝ) ^ (S j - μ) : ℝ) : EReal) := by
    rw [hacc, part, coe_sum]; exact Finset.sum_congr rfl fun k _ => by rw [ho, one_mul]; rfl
  have hp : 0 < ∑ j ∈ Finset.range n, (2 : ℝ) ^ (S j - μ) := sum_pos (fun j => S j - μ) n hn
  rw [hl, hacc, Ideal.div, if_neg (by exact_mod_cast hp.ne'), ← EReal.coe_inv, mul_comm, part, mul_sum _ (by positivity), mean]
  refine Finset.sum_congr rfl fun k _ => ?_
  rw [mul_left_comm, mul_comm (V r k), pow2, ← EReal.coe_mul]
  congr 2
  have e : ∑ j ∈ Finset.range n, (2 : ℝ) ^ (S j - μ) = (2 : ℝ) ^ (-μ) * ∑ j ∈ Finset.range n, (2 : ℝ) ^ S j := by
    rw [Finset.mul_sum]
    exact Finset.sum_congr rfl fun j _ => by rw [← Real.rpow_add (by norm_num)]; ring_nf
  have e' : (2 : ℝ) ^ (S k - μ) = (2 : ℝ) ^ (-μ) * (2 : ℝ) ^ S k := by
    rw [← Real.rpow_add (by norm_num)]; ring_nf
  rw [soft, e, e', mul_comm, ← div_eq_mul_inv, mul_div_mul_left _ _ (by positivity)]

/-- The softmax to the base e, shifted by any real `M`, of the scores times the logarithm of two. -/
theorem shifted (S : ℕ → ℝ) (n : ℕ) (hn : 0 < n) (M : ℝ) (k : ℕ) :
    Ideal.div (Ideal.exp ((S k : EReal) * (Real.log 2 : ℝ) - M))
      (0 + ∑ j ∈ Finset.range n, Ideal.exp ((S j : EReal) * (Real.log 2 : ℝ) - M)) = (soft S n k : EReal) := by
  have e : ∀ j, Ideal.exp ((S j : EReal) * (Real.log 2 : ℝ) - M) = ((Real.exp (-M) * (2 : ℝ) ^ S j : ℝ) : EReal) := fun j => by
    rw [← EReal.coe_mul, ← EReal.coe_sub]
    show ((Real.exp _ : ℝ) : EReal) = _
    rw [Real.rpow_def_of_pos (by norm_num), ← Real.exp_add]
    ring_nf
  simp only [e]
  rw [zero_add, ← coe_sum, ← Finset.mul_sum]
  have hp := sum_pos S n hn
  rw [Ideal.div, if_neg (by exact_mod_cast (by positivity : (Real.exp (-M) * ∑ j ∈ Finset.range n, (2 : ℝ) ^ S j) ≠ 0)),
    ← EReal.coe_inv, ← EReal.coe_mul, ← div_eq_mul_inv, mul_div_mul_left _ _ (Real.exp_pos _).ne', soft]

/-- The place in the order "first `a`, then `b`" of place `k` in the order "first `b`, then `a`". -/
def turn (a b k : ℕ) : ℕ := if k < b then a + k else k - b

theorem sum_turn {A : Type*} [AddCommMonoid A] (a b : ℕ) (f : ℕ → A) :
    ∑ k ∈ Finset.range (b + a), f (turn a b k) = ∑ k ∈ Finset.range (a + b), f k := by
  rw [Finset.sum_range_add, Finset.sum_range_add, add_comm]
  congr 1
  · exact Finset.sum_congr rfl fun k _ => by rw [turn, if_neg (by omega), Nat.add_sub_cancel_left]
  · exact Finset.sum_congr rfl fun k hk => by rw [turn, if_pos (Finset.mem_range.mp hk)]

end Cert.Proof.Softmax

end
-- ==== Proof.Attn.Value.lean ====
/- The attention kernel's block of the result, read over the extended reals: each element is the softmax-weighted sum of the
   value row over all keys, the context's first, when the scores are real numbers. -/
module

public import proofs.«01_k».proof.Proof.Attn.Fold
public import proofs.«01_k».proof.Proof.Math.Softmax
public import Idealize.ShloMosaic.Lib.Pointwise
public import Idealize.ShloMosaic.Lib.ValueIdx

@[expose] public section

noncomputable section

namespace Cert.Proof.Attn

open Idealize.ShloMosaic Cert.AttnIdeal Cert.AttnIdeal.Gen Cert.Proof.Softmax

theorem neg_inf : (Ideal.ofBits .f32 0xFF800000#32 : EReal) = ⊥ := by simp [Ideal.ofBits, Ideal.ieee]

theorem sc_ix (q : FVec Ideal S512x128 .bf16) (kb : Vec Ideal S1x1x512x128 .bf16) (k c : Fin 512) :
    sc q kb (ix3 0 k c) = ∑ d : Fin 128, (kb (ix4 0 0 k d) * q (ix2 c d) : EReal) := by
  unfold sc
  unfold_payloads
  pointwise

theorem scC_ix (q : FVec Ideal S512x128 .bf16) (kb : Vec Ideal S1x1x256x128 .bf16) (k : Fin 256) (c : Fin 512) :
    scC q kb (ix3 0 k c) = ∑ d : Fin 128, (kb (ix4 0 0 k d) * q (ix2 c d) : EReal) := by
  unfold scC
  unfold_payloads
  pointwise

theorem qh_ix (x : Vec Ideal S1x4x512x128 .bf16) (h : Fin 4) (c : Fin 512) (d : Fin 128) :
    qh x h (ix2 c d) = x (ix4 0 h c d) := by
  unfold qh
  unfold_payloads
  pointwise
  unfold qAt
  refine congrArg x ?_
  funext a
  match a with
  | ⟨0, _⟩ => rfl
  | ⟨1, _⟩ => exact Fin.ext (Nat.mod_eq_of_lt h.isLt)
  | ⟨2, _⟩ => rfl
  | ⟨3, _⟩ => rfl

theorem upd_max (a : Acc Ideal) (s : FVec Ideal S1x512x512 .f32) (v : Vec Ideal S1x64x512 .bf16) (c : Fin 512) :
    (upd a s v).1 (ix2 0 c) = max (a.1 (ix2 0 c)) (Finset.fold max ⊥ (fun x : Fin 512 => s (ix3 0 x c)) Finset.univ) := by
  rw [← neg_inf]
  unfold upd
  unfold_payloads
  pointwise

theorem upd_sum (a : Acc Ideal) (s : FVec Ideal S1x512x512 .f32) (v : Vec Ideal S1x64x512 .bf16) (r : Fin 80) (c : Fin 512) :
    (upd a s v).2 (ix2 r c) = Ideal.exp2 (a.1 (ix2 0 c) - (upd a s v).1 (ix2 0 c)) * a.2 (ix2 r c)
      + ∑ x : Fin 512, (if h : r.val < 64 then v (ix3 0 ⟨r.val, h⟩ x) else 1)
          * Ideal.exp2 (s (ix3 0 x c) - (upd a s v).1 (ix2 0 c)) := by
  rw [upd_max, ← neg_inf]
  unfold upd
  unfold_payloads
  pointwise
  rfl

theorem updC_max (a : Acc Ideal) (s : FVec Ideal S1x256x512 .f32) (v : Vec Ideal S1x64x256 .bf16) (c : Fin 512) :
    (updC a s v).1 (ix2 0 c) = max (a.1 (ix2 0 c)) (Finset.fold max ⊥ (fun x : Fin 256 => s (ix3 0 x c)) Finset.univ) := by
  rw [← neg_inf]
  unfold updC
  unfold_payloads
  pointwise

theorem updC_sum (a : Acc Ideal) (s : FVec Ideal S1x256x512 .f32) (v : Vec Ideal S1x64x256 .bf16) (r : Fin 80) (c : Fin 512) :
    (updC a s v).2 (ix2 r c) = Ideal.exp2 (a.1 (ix2 0 c) - (updC a s v).1 (ix2 0 c)) * a.2 (ix2 r c)
      + ∑ x : Fin 256, (if h : r.val < 64 then v (ix3 0 ⟨r.val, h⟩ x) else 1)
          * Ideal.exp2 (s (ix3 0 x c) - (updC a s v).1 (ix2 0 c)) := by
  rw [updC_max, ← neg_inf]
  unfold updC
  unfold_payloads
  pointwise
  rfl

theorem start_max (c : Fin 512) : (start (F := Ideal)).1 (ix2 0 c) = (⊥ : EReal) := by
  rw [← neg_inf]
  unfold start
  unfold_payloads
  pointwise

theorem start_sum (r : Fin 80) (c : Fin 512) : (start (F := Ideal)).2 (ix2 r c) = (0 : EReal) := by
  unfold start
  unfold_payloads
  pointwise

theorem out_ix (a : Fin 4 → FVec Ideal S80x512 .f32) (c : Fin 512) (h : Fin 4) (r : Fin 64) :
    out a (ix3 0 c ⟨64 * h.val + r.val, by omega⟩)
      = Ideal.div (a h (ix2 ⟨r.val, by omega⟩ c)) (a h (ix2 64 c)) := by
  have hr := r.isLt
  unfold out quot
  pointwise
  match h with
  | 0 => rw [dif_pos (by simp)]; simp
  | 1 => rw [dif_neg (by simp), dif_pos (by simp)]; simp
  | 2 => rw [dif_neg (by simp; omega), dif_neg (by simp; omega), dif_pos (by simp; omega)]; simp [show 128 + r.val - 64 - 64 = r.val by omega]
  | 3 => rw [dif_neg (by simp; omega), dif_neg (by simp; omega), dif_neg (by simp; omega)]; simp [show 192 + r.val - 64 - 64 - 64 = r.val by omega]

/-- Key `k`'s score against query `c`, in the order context keys, latent keys. -/
def score (x0 : Vec Ideal S1x4x512x128 .bf16) (x1 : Vec Ideal S1x4x256x128 .bf16) (x3 : Vec Ideal S1x4x4096x128 .bf16)
    (h : Fin 4) (c : Fin 512) (k : ℕ) : EReal :=
  if k < 256 then ∑ d : Fin 128, x1 (ix4 0 h ⟨k % 256, Nat.mod_lt _ (by norm_num)⟩ d) * x0 (ix4 0 h c d)
  else ∑ d : Fin 128, x3 (ix4 0 h ⟨(k - 256) % 4096, Nat.mod_lt _ (by norm_num)⟩ d) * x0 (ix4 0 h c d)

/-- Row `r` of head `h`'s values at key `k`, and one from row 64 on. -/
def val (x2 : Vec Ideal S1x256x256 .bf16) (x4 : Vec Ideal S1x256x4096 .bf16) (h : Fin 4) (r : Fin 80) (k : ℕ) : EReal :=
  if r.val < 64 then
    (if k < 256 then x2 (ix3 0 ⟨(64 * h.val + r.val) % 256, Nat.mod_lt _ (by norm_num)⟩ ⟨k % 256, Nat.mod_lt _ (by norm_num)⟩)
     else x4 (ix3 0 ⟨(64 * h.val + r.val) % 256, Nat.mod_lt _ (by norm_num)⟩ ⟨(k - 256) % 4096, Nat.mod_lt _ (by norm_num)⟩))
  else 1

variable (x0 : Vec Ideal S1x4x512x128 .bf16) (x1 : Vec Ideal S1x4x256x128 .bf16) (x2 : Vec Ideal S1x256x256 .bf16)
  (x3 : Vec Ideal S1x4x4096x128 .bf16) (x4 : Vec Ideal S1x256x4096 .bf16) (h : Fin 4) (c : Fin 512)

theorem mod4 : (⟨h.val % 4, Nat.mod_lt _ (by norm_num)⟩ : Fin 4) = h := Fin.ext (Nat.mod_eq_of_lt h.isLt)

theorem score_ctx (k : Fin 256) : scC (qh x0 h) (kCAt x1 h.val) (ix3 0 k c) = score x0 x1 x3 h c k.val := by
  rw [scC_ix, score, if_pos k.isLt]
  refine Finset.sum_congr rfl fun d _ => ?_
  rw [qh_ix, kCAt]
  congr 2
  funext a
  match a with
  | ⟨0, _⟩ => rfl
  | ⟨1, _⟩ => exact mod4 h
  | ⟨2, _⟩ => exact Fin.ext (Nat.mod_eq_of_lt k.isLt).symm
  | ⟨3, _⟩ => rfl

theorem score_lat (n : ℕ) (hn : n < 8) (k : Fin 512) :
    sc (qh x0 h) (kL x3 h n) (ix3 0 k c) = score x0 x1 x3 h c (256 + 512 * n + k.val) := by
  rw [sc_ix, score, if_neg (by omega)]
  refine Finset.sum_congr rfl fun d _ => ?_
  rw [qh_ix, kL, kAt]
  congr 2
  funext a
  match a with
  | ⟨0, _⟩ => rfl
  | ⟨1, _⟩ => exact mod4 h
  | ⟨2, _⟩ => exact Fin.ext (by show (512 * n + k.val) % 4096 = (256 + 512 * n + k.val - 256) % 4096; congr 1; omega)
  | ⟨3, _⟩ => rfl

theorem val_ctx (r : Fin 80) (k : Fin 256) :
    (if h' : r.val < 64 then vCAt x2 (64 * h.val) (ix3 0 ⟨r.val, h'⟩ k) else (1 : EReal)) = val x2 x4 h r k.val := by
  unfold val
  by_cases hr : r.val < 64
  · rw [dif_pos hr, if_pos hr, if_pos k.isLt, vCAt]
    refine congrArg x2 (funext fun a => ?_)
    match a with
    | ⟨0, _⟩ => rfl
    | ⟨1, _⟩ => rfl
    | ⟨2, _⟩ => exact Fin.ext (Nat.mod_eq_of_lt k.isLt).symm
  · rw [dif_neg hr, if_neg hr]

theorem val_lat (n : ℕ) (hn : n < 8) (r : Fin 80) (k : Fin 512) :
    (if h' : r.val < 64 then vL x4 h n (ix3 0 ⟨r.val, h'⟩ k) else (1 : EReal)) = val x2 x4 h r (256 + 512 * n + k.val) := by
  unfold val
  by_cases hr : r.val < 64
  · rw [dif_pos hr, if_pos hr, if_neg (by omega), vL, vAt]
    refine congrArg x4 (funext fun a => ?_)
    match a with
    | ⟨0, _⟩ => rfl
    | ⟨1, _⟩ => rfl
    | ⟨2, _⟩ => exact Fin.ext (by show (512 * n + k.val) % 4096 = (256 + 512 * n + k.val - 256) % 4096; congr 1; omega)
  · rw [dif_neg hr, if_neg hr]

/-- The state of head `h` at query `c` after `n` chunks of latent keys. -/
theorem state (S : ℕ → ℝ) (hS : ∀ k, score x0 x1 x3 h c k = S k) (n : ℕ) (hn : n ≤ 8) :
    State S (val x2 x4 h) (256 + 512 * n) ((lat (qh x0) x3 x4 (ctx x0 x1 x2) n h).1 (ix2 0 c))
      (fun r => (lat (qh x0) x3 x4 (ctx x0 x1 x2) n h).2 (ix2 r c)) := by
  induction n with
  | zero =>
    refine State.first 256 (by norm_num) _ _ ?_ fun r => ?_
    · show (ctx x0 x1 x2 h).1 (ix2 0 c) = _
      unfold ctx
      rw [updC_max, start_max]
      simp only [score_ctx x0 x1 x3 h c, hS]
    · show (ctx x0 x1 x2 h).2 (ix2 r c) = Ideal.exp2 (⊥ - (ctx x0 x1 x2 h).1 (ix2 0 c)) * 0 + _
      unfold ctx
      rw [updC_sum, start_max, start_sum]
      simp only [score_ctx x0 x1 x3 h c, hS, val_ctx x2 x4 h]
      rfl
  | succ n ih =>
    refine State.next 512 (by norm_num) (ih (by omega)) _ _ ?_ fun r => ?_
    · show (upd _ _ _).1 (ix2 0 c) = _
      rw [upd_max]
      simp only [score_lat x0 x1 x3 h c n (by omega), hS]
    · show (upd _ _ _).2 (ix2 r c) = _
      rw [upd_sum]
      simp only [score_lat x0 x1 x3 h c n (by omega), hS, val_lat x2 x4 h n (by omega)]
      rfl

/-- One element of the block of the result. -/
theorem blk_ix (S : ℕ → ℝ) (hS : ∀ k, score x0 x1 x3 h c k = S k) (r : Fin 64) :
    blk x0 x1 x2 x3 x4 (ix3 0 c ⟨64 * h.val + r.val, by omega⟩) = mean S (val x2 x4 h ⟨r.val, by omega⟩) 4352 := by
  unfold blk
  rw [out_ix]
  exact (state x0 x1 x2 x3 x4 h c S hS 8 le_rfl).quot (by norm_num) (64 : Fin 80) (fun k => if_neg (by norm_num)) ⟨r.val, by omega⟩

end Cert.Proof.Attn

end
-- ==== Proof.Attn.Reference.lean ====
/- The attention reference read at an element over the extended reals: the softmax of the scores times log 2, over the latent
   keys and then the context's, against the values. -/
module

public import proofs.«01_k».proof.Proof.Gen.AttnRefIdeal.Read
public import proofs.«01_k».proof.Proof.Math.Softmax
public import Idealize.ShloMosaic.Lib.Pointwise
public import Idealize.ShloMosaic.Lib.ValueIdx

@[expose] public section

noncomputable section

namespace Cert.Proof.AttnRef

open Idealize.ShloMosaic Cert.AttnRefIdeal Cert.AttnRefIdeal.Gen Cert.AttnRefIdeal.Read Cert.Proof.Softmax

theorem log_two : Ideal.log (Ideal.ofBits .f32 0x40000000#32) = ((Real.log 2 : ℝ) : EReal) := by
  have : (Ideal.ofBits .f32 0x40000000#32 : EReal) = ((2 : ℝ) : EReal) := by
    simp [Ideal.ofBits, Ideal.ieee, -EReal.coe_mul]; norm_num
  rw [this]
  show (if (2 : ℝ) ≤ 0 then ⊥ else ((Real.log 2 : ℝ) : EReal)) = _
  rw [if_neg (by norm_num)]

theorem neg_inf : (Ideal.ofBits .f32 0xFF800000#32 : EReal) = ⊥ := by simp [Ideal.ofBits, Ideal.ieee]

variable (x0 : Vec Ideal S4x4x4096x128 .bf16) (x1 : Vec Ideal S4x4x256x128 .bf16) (x2 : Vec Ideal S4x256x256 .bf16)
  (x3 : Vec Ideal S4x4x4096x128 .bf16) (x4 : Vec Ideal S4x256x4096 .bf16)

theorem key_ix (b h : Fin 4) (k : Fin 4352) (d : Fin 128) : val_main_v1 (F := Ideal) x1 x3 (ix4 b h k d)
    = (if h' : k.val < 4096 then x3 (ix4 b h ⟨k.val, h'⟩ d) else x1 (ix4 b h ⟨k.val - 4096, by omega⟩ d) : EReal) := by
  pointwise [val_main_v1, val_main_v0]

theorem val_ix (b h : Fin 4) (r : Fin 64) (k : Fin 4352) : val_main_v4 (F := Ideal) x2 x4 (ix4 b h r k)
    = (if h' : k.val < 4096 then x4 (ix3 b ⟨h.val * 64 + r.val, by omega⟩ ⟨k.val, h'⟩)
       else x2 (ix3 b ⟨h.val * 64 + r.val, by omega⟩ ⟨k.val - 4096, by omega⟩) : EReal) := by
  pointwise [val_main_v4, val_main_v3, val_main_v2]

theorem score_ix (b h : Fin 4) (t : Fin 4096) (k : Fin 4352) : val_main_v6 (F := Ideal) x0 x1 x3 (ix4 b h t k)
    = ∑ d : Fin 128, (x0 (ix4 b h t d) * val_main_v1 (F := Ideal) x1 x3 (ix4 b h k d) : EReal) := by
  pointwise [val_main_v6, val_main_v5]

theorem scaled_ix (b h : Fin 4) (t : Fin 4096) (k : Fin 4352) : val_main_v9 (F := Ideal) x0 x1 x3 (ix4 b h t k)
    = (val_main_v6 (F := Ideal) x0 x1 x3 (ix4 b h t k) * (Real.log 2 : ℝ) : EReal) := by
  rw [← log_two]
  pointwise [val_main_v9, val_main_v8, val_main_v7, val_main_cst]

theorem fold_ix (y : FVec Ideal S4x4x4096x4352 .f32) (z : FVec Ideal S_ .f32) (b h : Fin 4) (t : Fin 4096) :
    Host.reduce FloatOps.maximumf y z reducesTo_S4x4x4096x4352_S4x4x4096_d3 h_S_ (ix3 b h t)
      = Finset.fold max (z (Shape.Idx.first h_S_)) (fun k : Fin 4352 => y (ix4 b h t k)) Finset.univ := by
  pointwise

/-- The reference's shift is a real number when the scores are. -/
theorem max_real (b h : Fin 4) (t : Fin 4096) (S : Fin 4352 → ℝ)
    (hS : ∀ k, val_main_v6 (F := Ideal) x0 x1 x3 (ix4 b h t k) = (S k : EReal)) :
    ∃ M : ℝ, val_main_v12 (F := Ideal) x0 x1 x3 (ix3 b h t) = (M : EReal) := by
  obtain ⟨x, hx⟩ := fold_max (n := 4352) (by norm_num) fun k => S k * Real.log 2
  refine ⟨S x * Real.log 2, ?_⟩
  rw [val_main_v12_apply, val_main_v10, fold_ix, ← hx]
  simp only [scaled_ix, hS, EReal.coe_mul]
  show max (Ideal.ofBits .f32 0xFF800000#32) (Finset.fold max (Ideal.ofBits .f32 0xFF800000#32) _ _) = _
  rw [neg_inf]
  exact max_eq_right bot_le

theorem weight_ix (b h : Fin 4) (t : Fin 4096) (k : Fin 4352) : val_main_v20 (F := Ideal) x0 x1 x3 (ix4 b h t k)
    = Ideal.div
        (Ideal.exp (val_main_v6 (F := Ideal) x0 x1 x3 (ix4 b h t k) * (Real.log 2 : ℝ) - val_main_v12 (F := Ideal) x0 x1 x3 (ix3 b h t)))
        (∑ x : Fin 4352,
          Ideal.exp (val_main_v6 (F := Ideal) x0 x1 x3 (ix4 b h t x) * (Real.log 2 : ℝ) - val_main_v12 (F := Ideal) x0 x1 x3 (ix3 b h t))) := by
  pointwise [val_main_v20, val_main_v19, val_main_v18, val_main_v17, val_main_v16, val_main_v15, val_main_v14, val_main_v13,
    val_main_cst_2]
  simp only [scaled_ix]

/-- An element of the reference's result. -/
theorem ref_ix (b h : Fin 4) (t : Fin 4096) (r : Fin 64) :
    val_main_v24 (F := Ideal) x0 x1 x2 x3 x4 (ix3 b t ⟨64 * h.val + r.val, by omega⟩)
      = ∑ k : Fin 4352, (val_main_v20 (F := Ideal) x0 x1 x3 (ix4 b h t k) * val_main_v4 (F := Ideal) x2 x4 (ix4 b h r k) : EReal) := by
  pointwise [val_main_v24, val_main_v23, val_main_v22, val_main_v21]

end Cert.Proof.AttnRef

end
-- ==== Proof.Attn.Equal.lean ====
/- The attention kernel's result and the reference's are the same array of extended reals when the queries and keys are
   real numbers. -/
module

public import proofs.«01_k».proof.Proof.Attn.Frame
public import proofs.«01_k».proof.Proof.Attn.Value
public import proofs.«01_k».proof.Proof.Attn.Reference

@[expose] public section

set_option maxRecDepth 16384

noncomputable section

namespace Cert.Proof.Attn

open Idealize.ShloMosaic Cert.AttnIdeal Cert.Proof.Softmax

variable (q : Vec Ideal S4x4x4096x128 .bf16) (kc : Vec Ideal S4x4x256x128 .bf16) (vc : Vec Ideal S4x256x256 .bf16)
  (kl : Vec Ideal S4x4x4096x128 .bf16) (vl : Vec Ideal S4x256x4096 .bf16)

/-- A key's score against a query, of the whole arrays, is a real number. -/
theorem score_real (hq : ∀ i, ∃ r : ℝ, q i = (r : EReal)) (hc : ∀ i, ∃ r : ℝ, kc i = (r : EReal))
    (hl : ∀ i, ∃ r : ℝ, kl i = (r : EReal)) (b : Fin 4) (n : ℕ) (h : Fin 4) (c : Fin 512) :
    ∃ S : ℕ → ℝ, ∀ k, score (qB q b n) (kcB kc b) (klB kl b) h c k = (S k : EReal) := by
  choose fq hq using hq
  choose fc hc using hc
  choose fl hl using hl
  suffices e : ∀ k, ∃ r : ℝ, score (qB q b n) (kcB kc b) (klB kl b) h c k = (r : EReal) by
    choose S hS using e
    exact ⟨S, hS⟩
  intro k
  unfold score
  split
  · simp only [kcB, qB, hq, hc, ← EReal.coe_mul]
    exact ⟨_, (coe_sum _ _).symm⟩
  · simp only [klB, qB, hq, hl, ← EReal.coe_mul]
    exact ⟨_, (coe_sum _ _).symm⟩

/-- The reference's scores are the kernel's, in the order latent keys, context keys. -/
theorem score_eq (b h : Fin 4) (t : Fin 4096) (k : Fin 4352) :
    Cert.AttnRefIdeal.Read.val_main_v6 (F := Ideal) q kc kl (ix4 b h t k)
      = score (qB q b (t.val / 512)) (kcB kc b) (klB kl b) h ⟨t.val % 512, Nat.mod_lt _ (by norm_num)⟩ (turn 256 4096 k.val) := by
  rw [AttnRef.score_ix]
  have e : ∀ d : Fin 128, qB q b (t.val / 512) (ix4 0 h ⟨t.val % 512, Nat.mod_lt _ (by norm_num)⟩ d) = q (ix4 b h t d) := fun d => by
    unfold qB
    refine congrArg q (funext fun a => ?_)
    match a with
    | ⟨0, _⟩ => rfl
    | ⟨1, _⟩ => rfl
    | ⟨2, _⟩ => exact Fin.ext (by show (512 * (t.val / 512) + t.val % 512) % 4096 = t.val; omega)
    | ⟨3, _⟩ => rfl
  unfold score turn
  simp only [e, AttnRef.key_ix]
  by_cases hk : k.val < 4096
  · simp only [dif_pos hk, if_pos hk]
    rw [if_neg (by omega)]
    refine Finset.sum_congr rfl fun d _ => ?_
    rw [mul_comm]
    refine congrArg (· * q (ix4 b h t d)) (congrArg kl (funext fun a => ?_))
    match a with
    | ⟨0, _⟩ => rfl
    | ⟨1, _⟩ => rfl
    | ⟨2, _⟩ => exact Fin.ext (by show k.val = (256 + k.val - 256) % 4096; omega)
    | ⟨3, _⟩ => rfl
  · simp only [dif_neg hk, if_neg hk]
    have hk' : k.val - 4096 < 256 := by have := k.isLt; omega
    rw [if_pos hk']
    refine Finset.sum_congr rfl fun d _ => ?_
    rw [mul_comm]
    refine congrArg (· * q (ix4 b h t d)) (congrArg kc (funext fun a => ?_))
    match a with
    | ⟨0, _⟩ => rfl
    | ⟨1, _⟩ => rfl
    | ⟨2, _⟩ => exact Fin.ext (Nat.mod_eq_of_lt (by have := k.isLt; omega : k.val - 4096 < 256)).symm
    | ⟨3, _⟩ => rfl

/-- The reference's values likewise. -/
theorem val_eq (b h : Fin 4) (r : Fin 64) (k : Fin 4352) :
    Cert.AttnRefIdeal.Read.val_main_v4 (F := Ideal) vc vl (ix4 b h r k)
      = val (vcB vc b) (vlB vl b) h ⟨r.val, by omega⟩ (turn 256 4096 k.val) := by
  rw [AttnRef.val_ix]
  unfold val turn
  rw [if_pos r.isLt]
  by_cases hk : k.val < 4096
  · rw [dif_pos hk, if_pos hk, if_neg (by omega)]
    refine congrArg vl (funext fun a => ?_)
    match a with
    | ⟨0, _⟩ => rfl
    | ⟨1, _⟩ => exact Fin.ext (by show h.val * 64 + r.val = (64 * h.val + r.val) % 256; omega)
    | ⟨2, _⟩ => exact Fin.ext (by show k.val = (256 + k.val - 256) % 4096; omega)
  · rw [dif_neg hk, if_neg hk, if_pos (by omega)]
    refine congrArg vc (funext fun a => ?_)
    match a with
    | ⟨0, _⟩ => rfl
    | ⟨1, _⟩ => exact Fin.ext (by show h.val * 64 + r.val = (64 * h.val + r.val) % 256; omega)
    | ⟨2, _⟩ => exact Fin.ext (Nat.mod_eq_of_lt (by have := k.isLt; omega : k.val - 4096 < 256)).symm

/-- Element by element, the kernel's result is the reference's. -/
theorem attn_ix (hq : ∀ i, ∃ r : ℝ, q i = (r : EReal)) (hc : ∀ i, ∃ r : ℝ, kc i = (r : EReal))
    (hl : ∀ i, ∃ r : ℝ, kl i = (r : EReal)) (b h : Fin 4) (t : Fin 4096) (r : Fin 64) :
    attn q kc vc kl vl (ix3 b t ⟨64 * h.val + r.val, by omega⟩)
      = Cert.AttnRefIdeal.Read.val_main_v24 (F := Ideal) q kc vc kl vl (ix3 b t ⟨64 * h.val + r.val, by omega⟩) := by
  obtain ⟨S, hS⟩ := score_real q kc kl hq hc hl b (t.val / 512) h ⟨t.val % 512, Nat.mod_lt _ (by norm_num)⟩
  have h6 : ∀ k, Cert.AttnRefIdeal.Read.val_main_v6 (F := Ideal) q kc kl (ix4 b h t k) = (S (turn 256 4096 k.val) : EReal) :=
    fun k => (score_eq q kc kl b h t k).trans (hS _)
  obtain ⟨M, hM⟩ := AttnRef.max_real q kc kl b h t _ h6
  have hsum : ∑ x : Fin 4352, Ideal.exp ((S (turn 256 4096 x.val) : EReal) * (Real.log 2 : ℝ) - (M : EReal))
      = 0 + ∑ j ∈ Finset.range 4352, Ideal.exp ((S j : EReal) * (Real.log 2 : ℝ) - (M : EReal)) := by
    rw [zero_add]
    exact (Finset.sum_range fun k => Ideal.exp ((S (turn 256 4096 k) : EReal) * (Real.log 2 : ℝ) - (M : EReal))).symm.trans
      (sum_turn 256 4096 fun k => Ideal.exp ((S k : EReal) * (Real.log 2 : ℝ) - (M : EReal)))
  rw [AttnRef.ref_ix]
  simp only [AttnRef.weight_ix, h6, hM, hsum, val_eq]
  simp only [shifted S 4352 (by norm_num) M]
  refine (blk_ix (qB q b (t.val / 512)) (kcB kc b) (vcB vc b) (klB kl b) (vlB vl b) h ⟨t.val % 512, Nat.mod_lt _ (by norm_num)⟩ S hS r).trans ?_
  unfold mean
  exact ((Finset.sum_range fun k => (soft S 4352 (turn 256 4096 k) : EReal) * val (vcB vc b) (vlB vl b) h ⟨r.val, by omega⟩ (turn 256 4096 k)).symm.trans
    (sum_turn 256 4096 fun k => (soft S 4352 k : EReal) * val (vcB vc b) (vlB vl b) h ⟨r.val, by omega⟩ k)).symm

theorem attn_eq (hq : ∀ i, ∃ r : ℝ, q i = (r : EReal)) (hc : ∀ i, ∃ r : ℝ, kc i = (r : EReal))
    (hl : ∀ i, ∃ r : ℝ, kl i = (r : EReal)) :
    attn q kc vc kl vl = Cert.AttnRefIdeal.Read.val_main_v24 (F := Ideal) q kc vc kl vl := by
  funext i
  have h2 : (i 2).val < 256 := (i 2).isLt
  have e : i = ix3 (i 0) (i 1) ⟨64 * (⟨(i 2).val / 64, by omega⟩ : Fin 4).val + (⟨(i 2).val % 64, by omega⟩ : Fin 64).val, by
      show 64 * ((i 2).val / 64) + (i 2).val % 64 < 256; omega⟩ := by
    funext a
    match a with
    | ⟨0, _⟩ => rfl
    | ⟨1, _⟩ => rfl
    | ⟨2, _⟩ => exact Fin.ext (by show (i 2).val = 64 * ((i 2).val / 64) + (i 2).val % 64; omega)
  rw [e]
  exact attn_ix q kc vc kl vl hq hc hl (i 0) _ (i 1) _

end Cert.Proof.Attn

end
-- ==== Proof.Attn.Same.lean ====
/- The printed attention call and its idealization are the same text, so what a run of the one keeps, a run of the other
   keeps: the printed call's frame. -/
module

public import proofs.«01_k».proof.Defs
public import proofs.«01_k».proof.Proof.Gen.Attn
public import proofs.«01_k».proof.Proof.Gen.AttnIdeal
public import proofs.«01_k».proof.Proof.Attn.Frame

@[expose] public section

set_option maxRecDepth 16384

noncomputable section

namespace Cert.Proof.Attn

open Idealize.ShloMosaic Idealize.SL.Sem

variable {F : FTy → Type} [FloatOps F]

/-- The two tables of kernel bodies agree at every label, -/
theorem bodies : Cert.Attn.defs₀ (F := F) = Cert.AttnIdeal.defs₀ (F := F) := by
  funext k
  match k with
  | .tc =>
    funext l a
    match l, a with
    | ⟨0, _⟩, (t, s) => rfl
    | ⟨_ + 1, h⟩, _ => exact absurd h (Nat.not_lt.2 (Nat.le_add_left _ _))
  | .scScalar _ => rfl
  | .scVector _ _ => rfl

/-- and so do the tables with the pipelines. -/
theorem tables : Cert.Attn.defs (F := F) = Cert.AttnIdeal.defs (F := F) :=
  congrArg (Pipeline.defs Cert.AttnIdeal.pcfgs) bodies

/-- The printed call leaves its arguments and the counters. -/
theorem frame : Cert.quiescent_Attn := fun m g _ =>
  (congrArg (fun D => (θ_run D (onTc (τ := Cert.AttnIdeal.τ) (Cert.AttnIdeal.main (F := Bits))) ⟨m, fun _ => 0, g⟩) _) (tables (F := Bits))).mpr
    (frame_ideal (F := Bits) m g)

end Cert.Proof.Attn

end
-- ==== Proof.Attn.Finite.lean ====
/- What the precondition says of the arrays: every query and every key is a real number. -/
module

public import proofs.«01_k».proof.Pre_finite
public import Idealize.ShloMosaic.Lib.Pointwise
public import Idealize.ShloMosaic.Lib.ValueIdx

@[expose] public section

noncomputable section

namespace Cert.Proof.Finite

open Idealize.ShloMosaic Cert.Pre_finite

instance facts : Cert.Pre_finite.Facts where
  concatenates_S4x4x4096x128_S4x4x256x128_S4x4x4096x128_S4x4x8448x128_d2 := by decide
  bitsLt_bf16_f32 := by decide
  bcast_S_S4x4x8448x128 := by decide

theorem pos_inf : (Ideal.ofBits .f32 0x7F800000#32 : EReal) = ⊤ := by simp [Ideal.ofBits, Ideal.ieee]

/-- An extended real whose absolute value is below `+∞` is a real number. -/
theorem real_of_abs (x : EReal) (h : max x (-x) < ⊤) : ∃ r : ℝ, x = (r : EReal) := by
  induction x with
  | bot => simp at h
  | coe r => exact ⟨r, rfl⟩
  | top => simp at h

variable (q : FVec Ideal S4x4x4096x128 .bf16) (kc : FVec Ideal S4x4x256x128 .bf16) (vc : FVec Ideal S4x256x256 .bf16)
  (kl : FVec Ideal S4x4x4096x128 .bf16) (vl : FVec Ideal S4x256x4096 .bf16)

theorem fn_ix (e : fn (F := Ideal) q kc vc kl vl = fun _ => 1#1) (b h : Fin 4) (k : Fin 8448) (d : Fin 128) :
    ∃ r : ℝ, (if h' : k.val < 4096 then q (ix4 b h ⟨k.val, h'⟩ d)
      else if h'' : k.val - 4096 < 256 then kc (ix4 b h ⟨k.val - 4096, h''⟩ d)
      else kl (ix4 b h ⟨k.val - 4096 - 256, by omega⟩ d) : EReal) = (r : EReal) := by
  have e' := congrFun e (ix4 b h k d)
  revert e'
  pointwise [fn]
  rw [pos_inf]
  intro e'
  refine real_of_abs _ ?_
  by_contra hn
  rw [show ∀ x : EReal, FloatOps.absf (F := Ideal) (φ := .f32) x = max x (-x) from fun _ => rfl, decide_eq_false hn] at e'
  exact absurd e' (by decide)

/-- The queries are real numbers, -/
theorem queries (e : fn (F := Ideal) q kc vc kl vl = fun _ => 1#1) (i : S4x4x4096x128.Idx) : ∃ r : ℝ, q i = (r : EReal) := by
  have h2 : (i 2).val < 4096 := (i 2).isLt
  obtain ⟨r, hr⟩ := fn_ix q kc vc kl vl e (i 0) (i 1) ⟨(i 2).val, by omega⟩ (i 3)
  rw [dif_pos h2] at hr
  refine ⟨r, hr ▸ congrArg q (funext fun a => ?_)⟩
  match a with
  | ⟨0, _⟩ => rfl
  | ⟨1, _⟩ => rfl
  | ⟨2, _⟩ => rfl
  | ⟨3, _⟩ => rfl

/-- so are the context's keys, -/
theorem context (e : fn (F := Ideal) q kc vc kl vl = fun _ => 1#1) (i : S4x4x256x128.Idx) : ∃ r : ℝ, kc i = (r : EReal) := by
  have h2 : (i 2).val < 256 := (i 2).isLt
  obtain ⟨r, hr⟩ := fn_ix q kc vc kl vl e (i 0) (i 1) ⟨4096 + (i 2).val, by omega⟩ (i 3)
  rw [dif_neg (by show ¬ 4096 + (i 2).val < 4096; omega), dif_pos (by show 4096 + (i 2).val - 4096 < 256; omega)] at hr
  refine ⟨r, hr ▸ congrArg kc (funext fun a => ?_)⟩
  match a with
  | ⟨0, _⟩ => rfl
  | ⟨1, _⟩ => rfl
  | ⟨2, _⟩ => exact Fin.ext (by show (i 2).val = 4096 + (i 2).val - 4096; omega)
  | ⟨3, _⟩ => rfl

/-- and the latent keys. -/
theorem latent (e : fn (F := Ideal) q kc vc kl vl = fun _ => 1#1) (i : S4x4x4096x128.Idx) : ∃ r : ℝ, kl i = (r : EReal) := by
  have h2 : (i 2).val < 4096 := (i 2).isLt
  obtain ⟨r, hr⟩ := fn_ix q kc vc kl vl e (i 0) (i 1) ⟨4352 + (i 2).val, by omega⟩ (i 3)
  rw [dif_neg (by show ¬ 4352 + (i 2).val < 4096; omega), dif_neg (by show ¬ 4352 + (i 2).val - 4096 < 256; omega)] at hr
  refine ⟨r, hr ▸ congrArg kl (funext fun a => ?_)⟩
  match a with
  | ⟨0, _⟩ => rfl
  | ⟨1, _⟩ => rfl
  | ⟨2, _⟩ => exact Fin.ext (by show (i 2).val = 4352 + (i 2).val - 4096 - 256; omega)
  | ⟨3, _⟩ => rfl

end Cert.Proof.Finite

end
-- ==== Proof.Math.Rows.lean ====
/- Two steps of the layer on one token's row, over the extended reals: the modulated norm, and the squared-relu feed-forward part
   with its gate and residual. -/
module

public import Idealize.ShloMosaic.PureOps.Ideal

@[expose] public section

noncomputable section

namespace Cert.Proof.Rows

open Idealize.ShloMosaic

/-- A row over its root mean square, times the gain, scaled and shifted. The two words are 1024 and 10⁻⁶. -/
def norm (x g sc sh : Fin 1024 → EReal) (d : Fin 1024) : EReal :=
  x d * Ideal.rsqrt (Ideal.div (∑ k, x k * x k) (Ideal.ofBits .f32 1149239296#32) + Ideal.ofBits .f32 897988541#32) * g d
    * (1 + sc d) + sh d

/-- A hidden entry: a row times a column, its negative part cut off, squared. -/
def hidden (h w : Fin 1024 → EReal) : EReal := max (∑ k, h k * w k) 0 * max (∑ k, h k * w k) 0

/-- The feed-forward part of a row: the residual and the gated product of the hidden entries with the second weights. -/
def ffn (x g sc sh gate : Fin 1024 → EReal) (w1 : Fin 1024 → Fin 4096 → EReal) (w2 : Fin 4096 → Fin 1024 → EReal)
    (d : Fin 1024) : EReal :=
  x d + gate d * ∑ k, hidden (norm x g sc sh) (fun j => w1 j k) * w2 k d

/-- A sum over 4096 is the sum over its two halves. -/
theorem halves (f : Fin 4096 → EReal) :
    ∑ k, f k = ∑ k : Fin 2048, f ⟨k.val, by omega⟩ + ∑ k : Fin 2048, f ⟨2048 + k.val, by omega⟩ :=
  Fin.sum_univ_add (a := 2048) (b := 2048) f

end Cert.Proof.Rows

end
-- ==== Proof.Ffn.Reference.lean ====
/- The feed-forward call's reference, read entry by entry over the extended reals: each is `Rows.ffn` of its token's row. -/
module

public import proofs.«01_k».proof.Proof.Gen.FfnRefIdeal.Read
public import proofs.«01_k».proof.Proof.Math.Rows
public import Idealize.ShloMosaic.Lib.Pointwise
public import Idealize.ShloMosaic.Lib.ValueIdx

@[expose] public section

noncomputable section

namespace Cert.Proof.FfnRef

open Idealize.ShloMosaic Cert.FfnRefIdeal Cert.FfnRefIdeal.Read

variable (x : Vec Ideal S4x4096x1024 .f32) (md : Vec Ideal S4x1x6144 .f32) (g : Vec Ideal S2x1024 .f32)
  (w1 : Vec Ideal S2x1024x4096 .f32) (w2 : Vec Ideal S2x4096x1024 .f32)

/-- An entry of the reference from the arguments: the modulation's fourth part shifts, its fifth scales, its sixth gates. -/
def entry (b : Fin 4) (t : Fin 4096) (d : Fin 1024) : EReal :=
  Rows.ffn (fun k => x (ix3 b t k)) (fun k => g (ix2 1 k)) (fun k => md (ix3 b 0 ⟨4096 + k.val, by omega⟩))
    (fun k => md (ix3 b 0 ⟨3072 + k.val, by omega⟩)) (fun k => md (ix3 b 0 ⟨5120 + k.val, by omega⟩))
    (fun j k => w1 (ix3 1 j k)) (fun k j => w2 (ix3 1 k j)) d

/-- The normed and modulated row. -/
theorem norm_ix (b : Fin 4) (t : Fin 4096) (d : Fin 1024) : val_main_v26 (F := Ideal) x md g (ix3 b t d)
    = Rows.norm (fun k => x (ix3 b t k)) (fun k => g (ix2 1 k)) (fun k => md (ix3 b 0 ⟨4096 + k.val, by omega⟩))
        (fun k => md (ix3 b 0 ⟨3072 + k.val, by omega⟩)) d := by
  unfold val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9
    val_main_v8 val_main_v7 val_main_v6 val_main_v4 val_main_v3 val_main_cst_2 val_main_cst_1 val_main_cst_0 val_main_cst
  unfold Rows.norm
  pointwise

/-- The whole. -/
theorem ref_ix (b : Fin 4) (t : Fin 4096) (d : Fin 1024) :
    val_main_v37 (F := Ideal) x md g w1 w2 (ix3 b t d) = entry x md g w1 w2 b t d := by
  unfold val_main_v37 val_main_v36 val_main_v35 val_main_v34 val_main_v33 val_main_v32 val_main_v31 val_main_v30 val_main_v29
    val_main_v28 val_main_v27 val_main_v5 val_main_call0_v0 val_main_call0_cst
  pointwise
  simp only [norm_ix]
  rfl

end Cert.Proof.FfnRef

end
-- ==== Proof.Ffn.Value.lean ====
/- The feed-forward call's result: each block of it entry by entry over the extended reals, then the whole array, each entry
   `Rows.ffn` of its token's row. -/
module

public import proofs.«01_k».proof.Proof.Gen.FfnIdeal.Value
public import proofs.«01_k».proof.Proof.Ffn.Reference
public import Idealize.ShloMosaic.Lib.Pipeline.ValueKit.Point
public import Idealize.ShloMosaic.Lib.Pipeline.ValueKit.Geometry
public import Idealize.ShloMosaic.Lib.Pipeline.ValueKit.Tiles

@[expose] public section

set_option maxRecDepth 16384

noncomputable section

namespace Cert.Proof.Ffn

open Idealize.ShloMosaic Idealize.ShloMosaic.TcCoe Idealize.SL.Sem
open Idealize.ShloMosaic.Pipeline (Dat Cfg Window)
open Cert.FfnIdeal Cert.FfnIdeal.Gen

/-- The normed rows of a block. -/
theorem norm_ix (x : Vec Ideal S1x512x1024 .f32) (g : Vec Ideal S1x1024 .f32) (sc sh : Vec Ideal S1x1x1024 .f32)
    (t : Fin 512) (d : Fin 1024) : k0_pay3 x g sc sh (ix2 t d)
      = Rows.norm (fun k => x (ix3 0 t k)) (fun k => g (ix2 0 k)) (fun k => sc (ix3 0 0 k)) (fun k => sh (ix3 0 0 k)) d := by
  unfold_payloads
  unfold Rows.norm
  pointwise

/-- The first weights' halves read. -/
theorem w1_low (w : Vec Ideal S1x1024x4096 .bf16) (j : Fin 1024) (k : Fin 2048) :
    View.ld w r0_3 (ix3 0 j k) = w (ix3 0 j ⟨k.val, by omega⟩) :=
  View.ld_unit_apply_of w _ _ _ _ _ fun a => match a with
    | ⟨0, _⟩ => rfl
    | ⟨1, _⟩ => (Nat.zero_add _).symm
    | ⟨2, _⟩ => (Nat.zero_add _).symm

theorem w1_high (w : Vec Ideal S1x1024x4096 .bf16) (j : Fin 1024) (k : Fin 2048) :
    View.ld w r0_5 (ix3 0 j k) = w (ix3 0 j ⟨2048 + k.val, by omega⟩) :=
  View.ld_unit_apply_of w _ _ _ _ _ fun a => match a with
    | ⟨0, _⟩ => rfl
    | ⟨1, _⟩ => (Nat.zero_add _).symm
    | ⟨2, _⟩ => rfl

/-- The second weights' halves read. -/
theorem w2_low (w : Vec Ideal S1x4096x1024 .bf16) (k : Fin 2048) (j : Fin 1024) :
    View.ld w r0_4 (ix3 0 k j) = w (ix3 0 ⟨k.val, by omega⟩ j) :=
  View.ld_unit_apply_of w _ _ _ _ _ fun a => match a with
    | ⟨0, _⟩ => rfl
    | ⟨1, _⟩ => (Nat.zero_add _).symm
    | ⟨2, _⟩ => (Nat.zero_add _).symm

theorem w2_high (w : Vec Ideal S1x4096x1024 .bf16) (k : Fin 2048) (j : Fin 1024) :
    View.ld w r0_6 (ix3 0 k j) = w (ix3 0 ⟨2048 + k.val, by omega⟩ j) :=
  View.ld_unit_apply_of w _ _ _ _ _ fun a => match a with
    | ⟨0, _⟩ => rfl
    | ⟨1, _⟩ => rfl
    | ⟨2, _⟩ => (Nat.zero_add _).symm

/-- A block of the result: the two halves of the hidden entries are added. -/
theorem out_ix (x : Vec Ideal S1x512x1024 .f32) (g : Vec Ideal S1x1024 .f32) (sh sc : Vec Ideal S1x1x1024 .f32)
    (w1 : Vec Ideal S1x1024x4096 .bf16) (w2 : Vec Ideal S1x4096x1024 .bf16) (gate : Vec Ideal S1x1x1024 .f32)
    (t : Fin 512) (d : Fin 1024) : out0_7 x g sh sc w1 w2 gate (ix3 0 t d)
      = Rows.ffn (fun k => x (ix3 0 t k)) (fun k => g (ix2 0 k)) (fun k => sc (ix3 0 0 k)) (fun k => sh (ix3 0 0 k))
          (fun k => gate (ix3 0 0 k)) (fun j k => w1 (ix3 0 j k)) (fun k j => w2 (ix3 0 k j)) d := by
  unfold out0_7
  rw [View.canon_cons_unit_lit _ _ _ (by decide)]
  rw [show View.ld x r0_0 = x from View.ld_unit_lit _ x (by decide), show View.ld g r0_1 = g from View.ld_unit_lit _ g (by decide),
    show View.ld sc r0_2 = sc from View.ld_unit_lit _ sc (by decide), show View.ld sh r0_2 = sh from View.ld_unit_lit _ sh (by decide),
    show View.ld gate r0_2 = gate from View.ld_unit_lit _ gate (by decide)]
  unfold k0_pay1 k0_pay2 k0_pay4
  pointwise
  simp only [norm_ix, w1_low, w1_high, w2_low, w2_high]
  unfold Rows.ffn
  rw [Rows.halves]
  rfl

variable (m : (ℓ : Loc nD τ sig) → Buf (Elt Ideal) ℓ) (ρ : Dev nD → PrngReg)

/-! ## The blocks at a point of the grid -/

theorem ind0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem ind1 : ∀ t : Fin cfg0.N, win0_1.index t = ![0, 0] :=
  (by decide +kernel : ∀ t : Fin grid0.N, win0_1.index t = ![0, 0])
theorem ind2 : ∀ t : Fin cfg0.N, win0_2.index t = ![(grid0.coords t 0).val, 0, 3] :=
  (by decide +kernel : ∀ t : Fin grid0.N, win0_2.index t = ![(grid0.coords t 0).val, 0, 3])
theorem ind3 : ∀ t : Fin cfg0.N, win0_3.index t = ![(grid0.coords t 0).val, 0, 4] :=
  (by decide +kernel : ∀ t : Fin grid0.N, win0_3.index t = ![(grid0.coords t 0).val, 0, 4])
theorem ind4 : ∀ t : Fin cfg0.N, win0_4.index t = ![1, 0, 0] :=
  (by decide +kernel : ∀ t : Fin grid0.N, win0_4.index t = ![1, 0, 0])
theorem ind5 : ∀ t : Fin cfg0.N, win0_5.index t = ![1, 0, 0] :=
  (by decide +kernel : ∀ t : Fin grid0.N, win0_5.index t = ![1, 0, 0])
theorem ind6 : ∀ t : Fin cfg0.N, win0_6.index t = ![(grid0.coords t 0).val, 0, 5] :=
  (by decide +kernel : ∀ t : Fin grid0.N, win0_6.index t = ![(grid0.coords t 0).val, 0, 5])
theorem ind7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])

/-- Token `i` of a point's block in its batch. -/
def tok (t : Fin cfg0.N) (i : Fin 512) : Fin 4096 :=
  ⟨512 * (grid0.coords t 1).val + i.val, by have h : (grid0.coords t 1).val < 8 := (grid0.coords t 1).isLt; omega⟩

theorem blk0 (c : Dev nD) (t : Fin cfg0.N) (i : Fin 512) (d : Fin 1024) : (iblk m c 0 t : Vec Ideal S1x512x1024 .f32) (ix3 0 i d)
    = m ((c : Thread nD τ).loc main_arg0) (ix3 (grid0.coords t 0) (tok t i) d) := by
  unfold iblk
  rw [View.read_apply, show V m c (Pipeline.arrRef spec0 0) = _ from V_main_arg0 m c]
  refine congrArg (m ((c : Thread nD τ).loc main_arg0)) (funext fun a => Fin.ext ?_)
  match a with
  | ⟨0, _⟩ => show win0_0.index t 0 * 1 + 1 * 0 = (grid0.coords t 0).val; rw [ind0]; simp
  | ⟨1, _⟩ => show win0_0.index t 1 * 512 + 1 * i.val = 512 * (grid0.coords t 1).val + i.val; rw [ind0]; simp; omega
  | ⟨2, _⟩ => show win0_0.index t 2 * 1024 + 1 * d.val = d.val; rw [ind0]; simp

theorem blk1 (c : Dev nD) (t : Fin cfg0.N) (d : Fin 1024) : (iblk m c 1 t : Vec Ideal S1x1024 .f32) (ix2 0 d)
    = m ((c : Thread nD τ).loc main_arg2) (ix2 1 d) := by
  have e : (iblk m c 1 t : Vec Ideal S1x1024 .f32) (ix2 0 d) = V m c (Pipeline.arrRef spec0 1) (ix2 0 d) := by
    unfold iblk
    rw [View.read_apply]
    refine congrArg (V m c (Pipeline.arrRef spec0 1)) (funext fun a => Fin.ext ?_)
    match a with
    | ⟨0, _⟩ => show win0_1.index t 0 * 1 + 1 * 0 = 0; rw [ind1]; simp
    | ⟨1, _⟩ => show win0_1.index t 1 * 1024 + 1 * d.val = d.val; rw [ind1]; simp
  rw [e]
  entry_read
  pointwise

theorem blk2 (c : Dev nD) (t : Fin cfg0.N) (d : Fin 1024) : (iblk m c 2 t : Vec Ideal S1x1x1024 .f32) (ix3 0 0 d)
    = m ((c : Thread nD τ).loc main_arg1) (ix3 (grid0.coords t 0) 0 ⟨3072 + d.val, by omega⟩) := by
  unfold iblk
  rw [View.read_apply, show V m c (Pipeline.arrRef spec0 2) = _ from V_main_arg1 m c]
  refine congrArg (m ((c : Thread nD τ).loc main_arg1)) (funext fun a => Fin.ext ?_)
  match a with
  | ⟨0, _⟩ => show win0_2.index t 0 * 1 + 1 * 0 = (grid0.coords t 0).val; rw [ind2]; simp
  | ⟨1, _⟩ => show win0_2.index t 1 * 1 + 1 * 0 = 0; rw [ind2]; simp
  | ⟨2, _⟩ => show win0_2.index t 2 * 1024 + 1 * d.val = 3072 + d.val; rw [ind2]; simp

theorem blk3 (c : Dev nD) (t : Fin cfg0.N) (d : Fin 1024) : (iblk m c 3 t : Vec Ideal S1x1x1024 .f32) (ix3 0 0 d)
    = m ((c : Thread nD τ).loc main_arg1) (ix3 (grid0.coords t 0) 0 ⟨4096 + d.val, by omega⟩) := by
  unfold iblk
  rw [View.read_apply, show V m c (Pipeline.arrRef spec0 3) = _ from V_main_arg1 m c]
  refine congrArg (m ((c : Thread nD τ).loc main_arg1)) (funext fun a => Fin.ext ?_)
  match a with
  | ⟨0, _⟩ => show win0_3.index t 0 * 1 + 1 * 0 = (grid0.coords t 0).val; rw [ind3]; simp
  | ⟨1, _⟩ => show win0_3.index t 1 * 1 + 1 * 0 = 0; rw [ind3]; simp
  | ⟨2, _⟩ => show win0_3.index t 2 * 1024 + 1 * d.val = 4096 + d.val; rw [ind3]; simp

theorem blk4 (c : Dev nD) (t : Fin cfg0.N) (j : Fin 1024) (k : Fin 4096) :
    (iblk m c 4 t : Vec Ideal S1x1024x4096 .bf16) (ix3 0 j k) = m ((c : Thread nD τ).loc main_arg3) (ix3 1 j k) := by
  have e : (iblk m c 4 t : Vec Ideal S1x1024x4096 .bf16) (ix3 0 j k) = V m c (Pipeline.arrRef spec0 4) (ix3 1 j k) := by
    unfold iblk
    rw [View.read_apply]
    refine congrArg (V m c (Pipeline.arrRef spec0 4)) (funext fun a => Fin.ext ?_)
    match a with
    | ⟨0, _⟩ => show win0_4.index t 0 * 1 + 1 * 0 = 1; rw [ind4]; simp
    | ⟨1, _⟩ => show win0_4.index t 1 * 1024 + 1 * j.val = j.val; rw [ind4]; simp
    | ⟨2, _⟩ => show win0_4.index t 2 * 4096 + 1 * k.val = k.val; rw [ind4]; simp
  rw [e]
  entry_read
  rfl

theorem blk5 (c : Dev nD) (t : Fin cfg0.N) (k : Fin 4096) (j : Fin 1024) :
    (iblk m c 5 t : Vec Ideal S1x4096x1024 .bf16) (ix3 0 k j) = m ((c : Thread nD τ).loc main_arg4) (ix3 1 k j) := by
  have e : (iblk m c 5 t : Vec Ideal S1x4096x1024 .bf16) (ix3 0 k j) = V m c (Pipeline.arrRef spec0 5) (ix3 1 k j) := by
    unfold iblk
    rw [View.read_apply]
    refine congrArg (V m c (Pipeline.arrRef spec0 5)) (funext fun a => Fin.ext ?_)
    match a with
    | ⟨0, _⟩ => show win0_5.index t 0 * 1 + 1 * 0 = 1; rw [ind5]; simp
    | ⟨1, _⟩ => show win0_5.index t 1 * 4096 + 1 * k.val = k.val; rw [ind5]; simp
    | ⟨2, _⟩ => show win0_5.index t 2 * 1024 + 1 * j.val = j.val; rw [ind5]; simp
  rw [e]
  entry_read
  rfl

theorem blk6 (c : Dev nD) (t : Fin cfg0.N) (d : Fin 1024) : (iblk m c 6 t : Vec Ideal S1x1x1024 .f32) (ix3 0 0 d)
    = m ((c : Thread nD τ).loc main_arg1) (ix3 (grid0.coords t 0) 0 ⟨5120 + d.val, by omega⟩) := by
  unfold iblk
  rw [View.read_apply, show V m c (Pipeline.arrRef spec0 6) = _ from V_main_arg1 m c]
  refine congrArg (m ((c : Thread nD τ).loc main_arg1)) (funext fun a => Fin.ext ?_)
  match a with
  | ⟨0, _⟩ => show win0_6.index t 0 * 1 + 1 * 0 = (grid0.coords t 0).val; rw [ind6]; simp
  | ⟨1, _⟩ => show win0_6.index t 1 * 1 + 1 * 0 = 0; rw [ind6]; simp
  | ⟨2, _⟩ => show win0_6.index t 2 * 1024 + 1 * d.val = 5120 + d.val; rw [ind6]; simp

/-! ## The whole array -/

/-- The result array as the reference's. -/
def whole (c : Dev nD) : Vec Ideal S4x4096x1024 .f32 :=
  Cert.FfnRefIdeal.Read.val_main_v37 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- After the run the result array is the reference's. -/
theorem result (c : Dev nD) : (dats m 0 c).arrAt 7 cfg0.N = whole m c := by
  refine (dats m 0 c).arrAt_eq_of_covers 7 _ (by decide +kernel) fun t hf y => ?_
  blk_simp
  rw [after0_7]
  obtain ⟨i, d, rfl⟩ : ∃ (i : Fin 512) (d : Fin 1024), y = ix3 0 i d := ⟨y 1, y 2, by
    have y0 : (y 0).val < 1 := (y 0).isLt
    funext a
    match a with
    | ⟨0, _⟩ => apply Fin.ext; show (y 0).val = 0; omega
    | ⟨1, _⟩ => rfl
    | ⟨2, _⟩ => rfl⟩
  have e : (win0_7.blk t).view.emb (ix3 0 i d) = ix3 (grid0.coords t 0) (tok t i) d := funext fun a => Fin.ext (by
    match a with
    | ⟨0, _⟩ => show win0_7.index t 0 * 1 + 1 * 0 = (grid0.coords t 0).val; rw [ind7]; simp
    | ⟨1, _⟩ => show win0_7.index t 1 * 512 + 1 * i.val = 512 * (grid0.coords t 1).val + i.val; rw [ind7]; simp; omega
    | ⟨2, _⟩ => show win0_7.index t 2 * 1024 + 1 * d.val = d.val; rw [ind7]; simp)
  refine Eq.trans ?_ (congrArg (whole m c) e).symm
  refine (out_ix _ _ _ _ _ _ _ i d).trans (Eq.trans ?_ (FfnRef.ref_ix _ _ _ _ _ (grid0.coords t 0) (tok t i) d).symm)
  simp only [blk0, blk1, blk2, blk3, blk4, blk5, blk6]
  rfl

/-- The kernel run: the result is the reference's value at the arguments, which are unchanged. -/
theorem value : θ_run defs (onTc (τ := τ) (main (F := Ideal))) ⟨m, fun _ => 0, ρ⟩ fun r => ∀ c : Dev nD,
      r.2.mem ((c : Thread nD τ).loc main_v5) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (result m c), (h c).2⟩) (Cert.FfnIdeal.Value.run_blocks m ρ)

end Cert.Proof.Ffn

end
-- ==== Proof.Merge.Gate.lean ====
/- The gate of a branch over the extended reals: the half-angle form by `tanh` is the logistic function, at every extended real. -/
module

public import Idealize.ShloMosaic.PureOps.Ideal

@[expose] public section

noncomputable section

namespace Cert.Proof.Merge

open Idealize.ShloMosaic

/-- The word of one half. -/
theorem half : (Ideal.ofBits .f32 1056964608#32 : EReal) = ((1 / 2 : ℝ) : EReal) := by
  simp [Ideal.ofBits, Ideal.ieee]
  rw [← EReal.coe_mul]
  norm_num

/-- The logistic function. -/
def gate (x : EReal) : EReal := Ideal.div 1 (1 + Ideal.exp (-x))

/-- One half of `tanh` of one half of `x`, and one half: the logistic function of `x`. -/
theorem gate_eq (x : EReal) :
    Ideal.ofBits .f32 1056964608#32 * Ideal.tanh (Ideal.ofBits .f32 1056964608#32 * x) + Ideal.ofBits .f32 1056964608#32
      = gate x := by
  rw [half]
  unfold gate
  induction x with
  | bot =>
    rw [EReal.coe_mul_bot_of_pos (by norm_num : (0 : ℝ) < 1 / 2), Ideal.tanh_bot, EReal.neg_bot]
    rw [show Ideal.exp ⊤ = ⊤ from rfl, show (1 : EReal) + ⊤ = ⊤ from rfl]
    unfold Ideal.div
    rw [if_neg (by simp), EReal.inv_top, mul_zero, show (-1 : EReal) = ((-1 : ℝ) : EReal) from rfl, ← EReal.coe_mul,
      ← EReal.coe_add]
    norm_num
  | top =>
    rw [EReal.coe_mul_top_of_pos (by norm_num : (0 : ℝ) < 1 / 2), Ideal.tanh_top, EReal.neg_top]
    rw [show Ideal.exp ⊥ = 0 from rfl, add_zero, mul_one, ← EReal.coe_add]
    unfold Ideal.div
    rw [if_neg one_ne_zero, show (1 : EReal) = ((1 : ℝ) : EReal) from rfl, ← EReal.coe_inv, ← EReal.coe_mul]
    norm_num
  | coe r =>
    have p : 0 < 1 + Real.exp (-r) := by positivity
    rw [← EReal.coe_mul, Ideal.tanh_coe, ← EReal.coe_mul, ← EReal.coe_add, ← EReal.coe_neg,
      show Ideal.exp ((-r : ℝ) : EReal) = (Real.exp (-r) : EReal) from rfl, show (1 : EReal) = ((1 : ℝ) : EReal) from rfl,
      ← EReal.coe_add]
    unfold Ideal.div
    rw [if_neg (by exact_mod_cast p.ne'), ← EReal.coe_inv, ← EReal.coe_mul]
    refine congrArg _ ?_
    rw [Real.tanh_eq, one_mul]
    have a : Real.exp (1 / 2 * r) = Real.exp (r / 2) := by congr 1; ring
    have b : Real.exp (-(1 / 2 * r)) = (Real.exp (r / 2))⁻¹ := by rw [← Real.exp_neg]; congr 1; ring
    have c : Real.exp (-r) = (Real.exp (r / 2))⁻¹ * (Real.exp (r / 2))⁻¹ := by
      rw [← Real.exp_neg, ← Real.exp_add]; congr 1; ring
    rw [a, b, c]
    have q : 0 < Real.exp (r / 2) := Real.exp_pos _
    generalize Real.exp (r / 2) = z at q
    have q' : z ≠ 0 := q.ne'
    field_simp
    ring

end Cert.Proof.Merge

end
-- ==== Proof.Merge.Heads.lean ====
/- The mean square of a head's 64 entries, where the row's 256 squares are summed against the heads' indicator: as the two parts of
   a number's split, the second of which is zero for a real number. -/
module

public import Idealize.ShloMosaic.PureOps.Ideal

@[expose] public section

noncomputable section

namespace Cert.Proof.Merge

open Idealize.ShloMosaic

/-- The heads' indicator: one where both entries lie in one head. -/
def same (x d : Fin 256) : EReal := if x.val / 64 = d.val / 64 then 1 else 0

/-- The entry of a head. -/
def at_ (h : Fin 4) (k : Fin 64) : Fin 256 := ⟨h.val * 64 + k.val, by omega⟩

/-- The sum over a row against the indicator is the sum over the head. -/
theorem sum_same (f : Fin 256 → EReal) (d : Fin 256) :
    ∑ x, f x * same x d = ∑ k, f (at_ ⟨d.val / 64, by omega⟩ k) := by
  have e : ∑ x, f x * same x d = ∑ p : Fin 4 × Fin 64, f (at_ p.1 p.2) * same (at_ p.1 p.2) d := by
    symm
    refine Fintype.sum_equiv (finProdFinEquiv (m := 4) (n := 64)) _ _ fun p => ?_
    have h : at_ p.1 p.2 = finProdFinEquiv p := Fin.ext (by
      show p.1.val * 64 + p.2.val = p.2.val + 64 * p.1.val
      omega)
    rw [h]
  rw [e, Fintype.sum_prod_type, Finset.sum_eq_single (⟨d.val / 64, by omega⟩ : Fin 4)]
  · refine Finset.sum_congr rfl fun k _ => ?_
    unfold same
    rw [if_pos (by show (d.val / 64 * 64 + k.val) / 64 = d.val / 64; omega), mul_one]
  · intro h _ hn
    refine Finset.sum_eq_zero fun k _ => ?_
    unfold same
    rw [if_neg, mul_zero]
    show ¬ (h.val * 64 + k.val) / 64 = d.val / 64
    intro q
    exact hn (Fin.ext (by show h.val = d.val / 64; omega))
  · intro h
    exact absurd (Finset.mem_univ _) h

/-- The words of 64 and of its inverse. -/
theorem word_64 : (Ideal.ofBits .f32 1115684864#32 : EReal) = ((64 : ℝ) : EReal) := by
  simp [Ideal.ofBits, Ideal.ieee]
  rw [← EReal.coe_mul]
  norm_num
theorem word_inv : (Ideal.ofBits .f32 1015021568#32 : EReal) = ((1 / 64 : ℝ) : EReal) := by
  simp [Ideal.ofBits, Ideal.ieee]
  rw [← EReal.coe_mul]
  norm_num

/-- The mean square by the indicator is the head's mean square, for a row of real numbers. -/
theorem mean (o : Fin 256 → EReal) (ho : ∀ x, ∃ r : ℝ, o x = (r : EReal)) (d : Fin 256) :
    (∑ x, o x * o x * same x d + ∑ x, (o x * o x - o x * o x) * same x d) * Ideal.ofBits .f32 1015021568#32
      = Ideal.div (∑ k, o (at_ ⟨d.val / 64, by omega⟩ k) * o (at_ ⟨d.val / 64, by omega⟩ k))
          (Ideal.ofBits .f32 1115684864#32) := by
  have z : ∑ x, (o x * o x - o x * o x) * same x d = 0 := Finset.sum_eq_zero fun x _ => by
    obtain ⟨r, hr⟩ := ho x
    rw [hr, ← EReal.coe_mul, ← EReal.coe_sub, sub_self, EReal.coe_zero, zero_mul]
  rw [z, add_zero, sum_same (fun x => o x * o x) d, word_64, word_inv]
  unfold Ideal.div
  rw [if_neg (by norm_num), ← EReal.coe_inv, show (1 / 64 : ℝ) = (64 : ℝ)⁻¹ from by norm_num]

end Cert.Proof.Merge

end
-- ==== Proof.Merge.Row.lean ====
/- One token's row of the merge over the extended reals: the recurrence's reading, normed per head and gated; the four branches, each
   gated and projected, and their sum; the last projection with its gate and residual. -/
module

public import proofs.«01_k».proof.Proof.Math.Rows
public import proofs.«01_k».proof.Proof.Merge.Gate
public import proofs.«01_k».proof.Proof.Merge.Heads

@[expose] public section

noncomputable section

namespace Cert.Proof.Merge

open Idealize.ShloMosaic

/-- The reading's entry: over its head's root mean square, times the head's gain, times the logistic function of `u`. The word is
    10⁻⁶. -/
def reading (o : Fin 256 → EReal) (g : Fin 64 → EReal) (u : Fin 256 → EReal) (d : Fin 256) : EReal :=
  o d * Ideal.rsqrt (Ideal.div (∑ k, o (at_ ⟨d.val / 64, by omega⟩ k) * o (at_ ⟨d.val / 64, by omega⟩ k))
      (Ideal.ofBits .f32 1115684864#32) + Ideal.ofBits .f32 897988541#32) * g ⟨d.val % 64, by omega⟩ * gate (u d)

/-- The four branches of a row. -/
def branches (a b c r : Fin 256 → EReal) : Fin 4 → Fin 256 → EReal
  | 0 => a
  | 1 => b
  | 2 => c
  | 3 => r

/-- The branches projected, gated and added. -/
def mixed (h : Fin 1024 → EReal) (wg : Fin 1024 → Fin 4096 → EReal) (y : Fin 4 → Fin 256 → EReal)
    (wb : Fin 4 → Fin 256 → Fin 1024 → EReal) (d : Fin 1024) : EReal :=
  ∑ n : Fin 4, gate (∑ k, h k * wg k ⟨n.val * 1024 + d.val, by omega⟩) * ∑ k, y n k * wb n k d

/-- The four terms of the sum, each with its columns of the gates' weights. -/
theorem mixed_four (h : Fin 1024 → EReal) (wg : Fin 1024 → Fin 4096 → EReal) (a b c r : Fin 256 → EReal)
    (wb : Fin 4 → Fin 256 → Fin 1024 → EReal) (d : Fin 1024) : mixed h wg (branches a b c r) wb d
      = gate (∑ k, h k * wg k ⟨d.val, by omega⟩) * ∑ k, a k * wb 0 k d
        + gate (∑ k, h k * wg k ⟨1024 + d.val, by omega⟩) * ∑ k, b k * wb 1 k d
        + gate (∑ k, h k * wg k ⟨2048 + d.val, by omega⟩) * ∑ k, c k * wb 2 k d
        + gate (∑ k, h k * wg k ⟨3072 + d.val, by omega⟩) * ∑ k, r k * wb 3 k d := by
  unfold mixed
  rw [Fin.sum_univ_four, show (⟨(0 : Fin 4).val * 1024 + d.val, by simp; omega⟩ : Fin 4096) = ⟨d.val, by omega⟩ from
    Fin.ext (Nat.zero_add _)]
  rfl

/-- The row of the result. -/
def row (x h : Fin 1024 → EReal) (wg : Fin 1024 → Fin 4096 → EReal) (y : Fin 4 → Fin 256 → EReal)
    (wb : Fin 4 → Fin 256 → Fin 1024 → EReal) (wo : Fin 1024 → Fin 1024 → EReal) (gt : Fin 1024 → EReal) (d : Fin 1024) : EReal :=
  x d + gt d * ∑ k, mixed h wg y wb k * wo k d

end Cert.Proof.Merge

end
-- ==== Proof.Merge.Reference.lean ====
/- The merge call's reference, read entry by entry over the extended reals: each is `Merge.row` of its token's row. -/
module

public import proofs.«01_k».proof.Proof.Gen.MergeRefIdeal.Read
public import proofs.«01_k».proof.Proof.Merge.Row
public import Idealize.ShloMosaic.Lib.Pointwise
public import Idealize.ShloMosaic.Lib.ValueIdx

@[expose] public section

noncomputable section

namespace Cert.Proof.MergeRef

open Idealize.ShloMosaic Cert.MergeRefIdeal Cert.MergeRefIdeal.Read

variable (x : Vec Ideal S4x4096x1024 .f32) (a1 a2 a3 : Vec Ideal S4x4096x256 .bf16) (o1 o2 o3 : Vec Ideal S4x4096x256 .f32)
  (u : Vec Ideal S4x4096x2816 .f32) (md : Vec Ideal S4x1x6144 .f32) (g : Vec Ideal S2x1024 .f32)
  (wg : Vec Ideal S2x1024x4096 .bf16) (hg : Vec Ideal S2x64 .f32) (wb : Vec Ideal S2x4x256x1024 .f32)
  (wo : Vec Ideal S2x1024x1024 .f32)

/-- The normed and modulated row: the modulation's first part shifts, its second scales. -/
def normed (b : Fin 4) (t : Fin 4096) : Fin 1024 → EReal :=
  Rows.norm (fun k => x (ix3 b t k)) (fun k => g (ix2 1 k)) (fun k => md (ix3 b 0 ⟨1024 + k.val, by omega⟩))
    (fun k => md (ix3 b 0 ⟨k.val, by omega⟩))

/-- The recurrence's reading of a row, from its three parts. -/
def read (b : Fin 4) (t : Fin 4096) : Fin 256 → EReal :=
  Merge.reading (fun k => o1 (ix3 b t k) + o2 (ix3 b t k) + o3 (ix3 b t k)) (fun k => hg (ix2 1 k))
    (fun k => u (ix3 b t ⟨2560 + k.val, by omega⟩))

/-- An entry of the reference from the arguments: the modulation's third part gates. -/
def entry (b : Fin 4) (t : Fin 4096) (d : Fin 1024) : EReal :=
  Merge.row (fun k => x (ix3 b t k)) (normed x md g b t) (fun j k => wg (ix3 1 j k))
    (Merge.branches (fun k => a1 (ix3 b t k)) (fun k => a2 (ix3 b t k)) (fun k => a3 (ix3 b t k)) (read o1 o2 o3 u hg b t))
    (fun n j k => wb (ix4 1 n j k)) (fun j k => wo (ix3 1 j k)) (fun k => md (ix3 b 0 ⟨2048 + k.val, by omega⟩)) d

theorem norm_ix (b : Fin 4) (t : Fin 4096) (d : Fin 1024) :
    val_main_v26 (F := Ideal) x md g (ix3 b t d) = normed x md g b t d := by
  unfold val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9
    val_main_v8 val_main_v7 val_main_v6 val_main_v1 val_main_v0 val_main_cst_2
    val_main_cst_1 val_main_cst_0 val_main_cst
  unfold normed Rows.norm
  pointwise

/-- The gates. -/
theorem gate_ix (b : Fin 4) (t : Fin 4096) (n : Fin 4) (d : Fin 1024) : val_main_v37 (F := Ideal) x md g wg (ix4 b t n d)
    = Merge.gate (∑ k, normed x md g b t k * wg (ix3 1 k ⟨n.val * 1024 + d.val, by omega⟩)) := by
  unfold val_main_v37 val_main_v36 val_main_v35 val_main_v34 val_main_v33 val_main_v32 val_main_v31 val_main_v30 val_main_v29
    val_main_v28 val_main_v27 val_main_cst_3 val_main_cst_4
  pointwise
  simp only [norm_ix]
  rfl

/-- The reading's three parts added. -/
theorem sum_ix (b : Fin 4) (t : Fin 4096) (d : Fin 256) : val_main_v39 (F := Ideal) o1 o2 o3 (ix3 b t d)
    = o1 (ix3 b t d) + o2 (ix3 b t d) + o3 (ix3 b t d) := by
  unfold val_main_v39 val_main_v38
  pointwise

/-- The reading normed per head. -/
theorem head_ix (b : Fin 4) (t : Fin 4096) (n : Fin 4) (d : Fin 64) : val_main_v55 (F := Ideal) o1 o2 o3 hg (ix4 b t n d)
    = val_main_v39 (F := Ideal) o1 o2 o3 (ix3 b t (Merge.at_ n d))
      * Ideal.rsqrt (Ideal.div (∑ k, val_main_v39 (F := Ideal) o1 o2 o3 (ix3 b t (Merge.at_ n k))
          * val_main_v39 (F := Ideal) o1 o2 o3 (ix3 b t (Merge.at_ n k))) (Ideal.ofBits .f32 1115684864#32)
        + Ideal.ofBits .f32 897988541#32) * hg (ix2 1 d) := by
  unfold val_main_v55 val_main_v54 val_main_v53 val_main_v52 val_main_v51 val_main_v50 val_main_v49 val_main_v48 val_main_v47
    val_main_v46 val_main_v45 val_main_v44 val_main_v43 val_main_v42 val_main_v41 val_main_v40 val_main_cst_5 val_main_cst_6
    val_main_cst_7
  pointwise
  rfl

theorem read_ix (b : Fin 4) (t : Fin 4096) (d : Fin 256) :
    val_main_v64 (F := Ideal) o1 o2 o3 u hg (ix3 b t d) = read o1 o2 o3 u hg b t d := by
  unfold val_main_v64 val_main_v63 val_main_v62 val_main_v61 val_main_v60 val_main_v59 val_main_v58 val_main_v57 val_main_v56
    val_main_cst_8 val_main_cst_9
  pointwise
  rw [head_ix, show Merge.at_ ⟨d.val / 64, by omega⟩ ⟨d.val % 64, by omega⟩ = d from
    Fin.ext (by show d.val / 64 * 64 + d.val % 64 = d.val; omega)]
  simp only [sum_ix]
  rfl

/-- The four branches side by side. -/
theorem stack_ix (b : Fin 4) (t : Fin 4096) (n : Fin 4) (d : Fin 256) :
    val_main_v72 (F := Ideal) a1 a2 a3 o1 o2 o3 u hg (ix4 b t n d)
      = Merge.branches (fun k => a1 (ix3 b t k)) (fun k => a2 (ix3 b t k)) (fun k => a3 (ix3 b t k)) (read o1 o2 o3 u hg b t) n d := by
  unfold val_main_v72 val_main_v71 val_main_v70 val_main_v69 val_main_v68 val_main_v67 val_main_v66 val_main_v65
  match n with
  | 0 => pointwise; rfl
  | 1 => pointwise; rfl
  | 2 => pointwise; rfl
  | 3 =>
    pointwise
    rw [read_ix]
    rfl

/-- The whole. -/
theorem ref_ix (b : Fin 4) (t : Fin 4096) (d : Fin 1024) :
    val_main_v84 (F := Ideal) x a1 a2 a3 o1 o2 o3 u md g wg hg wb wo (ix3 b t d)
      = entry x a1 a2 a3 o1 o2 o3 u md g wg hg wb wo b t d := by
  unfold val_main_v84 val_main_v83 val_main_v82 val_main_v81 val_main_v80 val_main_v79 val_main_v78 val_main_v77 val_main_v76
    val_main_v75 val_main_v74 val_main_v73 val_main_v2 val_main_cst_10
  pointwise
  simp only [gate_ix, stack_ix, mul_comm (wb _)]
  rfl

end Cert.Proof.MergeRef

end
-- ==== Proof.Merge.Block.lean ====
/- A block of the merge call's result, entry by entry over the extended reals: `Merge.row` of its token's row, where the reading's
   parts add up to real numbers and the indicator's block is the heads' indicator. -/
module

public import proofs.«01_k».proof.Proof.Gen.MergeIdeal.Frame
public import proofs.«01_k».proof.Proof.Merge.Row
public import Idealize.ShloMosaic.Lib.Pointwise
public import Idealize.ShloMosaic.Lib.ValueIdx
public import Idealize.ShloMosaic.Lib.Pipeline.ValueKit.Tiles

@[expose] public section

set_option maxRecDepth 16384

noncomputable section

namespace Cert.Proof.Merge

open Idealize.ShloMosaic Idealize.ShloMosaic.TcCoe
open Cert.MergeIdeal Cert.MergeIdeal.Gen

/-- The normed rows of a block. -/
theorem norm_ix (x : Vec Ideal S1x512x1024 .f32) (g : Vec Ideal S1x1024 .f32) (sc sh : Vec Ideal S1x1x1024 .f32)
    (t : Fin 512) (d : Fin 1024) : k0_pay3 x g sc sh (ix2 t d)
      = Rows.norm (fun k => x (ix3 0 t k)) (fun k => g (ix2 0 k)) (fun k => sc (ix3 0 0 k)) (fun k => sh (ix3 0 0 k)) d := by
  unfold_payloads
  unfold Rows.norm
  pointwise

/-- A branch's columns of the gates' weights. -/
theorem wg0 (w : Vec Ideal S1x1024x4096 .bf16) (j k : Fin 1024) :
    View.ld w r0_6 (ix3 0 j k) = w (ix3 0 j ⟨k.val, by omega⟩) :=
  View.ld_unit_apply_of w _ _ _ _ _ fun a => match a with
    | ⟨0, _⟩ => rfl
    | ⟨1, _⟩ => (Nat.zero_add _).symm
    | ⟨2, _⟩ => (Nat.zero_add _).symm
theorem wg1 (w : Vec Ideal S1x1024x4096 .bf16) (j k : Fin 1024) :
    View.ld w r0_8 (ix3 0 j k) = w (ix3 0 j ⟨1024 + k.val, by omega⟩) :=
  View.ld_unit_apply_of w _ _ _ _ _ fun a => match a with
    | ⟨0, _⟩ => rfl
    | ⟨1, _⟩ => (Nat.zero_add _).symm
    | ⟨2, _⟩ => rfl
theorem wg2 (w : Vec Ideal S1x1024x4096 .bf16) (j k : Fin 1024) :
    View.ld w r0_10 (ix3 0 j k) = w (ix3 0 j ⟨2048 + k.val, by omega⟩) :=
  View.ld_unit_apply_of w _ _ _ _ _ fun a => match a with
    | ⟨0, _⟩ => rfl
    | ⟨1, _⟩ => (Nat.zero_add _).symm
    | ⟨2, _⟩ => rfl
theorem wg3 (w : Vec Ideal S1x1024x4096 .bf16) (j k : Fin 1024) :
    View.ld w r0_12 (ix3 0 j k) = w (ix3 0 j ⟨3072 + k.val, by omega⟩) :=
  View.ld_unit_apply_of w _ _ _ _ _ fun a => match a with
    | ⟨0, _⟩ => rfl
    | ⟨1, _⟩ => (Nat.zero_add _).symm
    | ⟨2, _⟩ => rfl

/-- A branch's projection. -/
theorem wb0 (w : Vec Ideal S1x4x256x1024 .bf16) (j : Fin 256) (k : Fin 1024) :
    View.ld w r0_7 (ix4 0 0 j k) = w (ix4 0 0 j k) :=
  View.ld_unit_apply_of w _ _ _ _ _ fun a => match a with
    | ⟨0, _⟩ => rfl
    | ⟨1, _⟩ => rfl
    | ⟨2, _⟩ => (Nat.zero_add _).symm
    | ⟨3, _⟩ => (Nat.zero_add _).symm
theorem wb1 (w : Vec Ideal S1x4x256x1024 .bf16) (j : Fin 256) (k : Fin 1024) :
    View.ld w r0_9 (ix4 0 0 j k) = w (ix4 0 1 j k) :=
  View.ld_unit_apply_of w _ _ _ _ _ fun a => match a with
    | ⟨0, _⟩ => rfl
    | ⟨1, _⟩ => rfl
    | ⟨2, _⟩ => (Nat.zero_add _).symm
    | ⟨3, _⟩ => (Nat.zero_add _).symm
theorem wb2 (w : Vec Ideal S1x4x256x1024 .bf16) (j : Fin 256) (k : Fin 1024) :
    View.ld w r0_11 (ix4 0 0 j k) = w (ix4 0 2 j k) :=
  View.ld_unit_apply_of w _ _ _ _ _ fun a => match a with
    | ⟨0, _⟩ => rfl
    | ⟨1, _⟩ => rfl
    | ⟨2, _⟩ => (Nat.zero_add _).symm
    | ⟨3, _⟩ => (Nat.zero_add _).symm
theorem wb3 (w : Vec Ideal S1x4x256x1024 .bf16) (j : Fin 256) (k : Fin 1024) :
    View.ld w r0_13 (ix4 0 0 j k) = w (ix4 0 3 j k) :=
  View.ld_unit_apply_of w _ _ _ _ _ fun a => match a with
    | ⟨0, _⟩ => rfl
    | ⟨1, _⟩ => rfl
    | ⟨2, _⟩ => (Nat.zero_add _).symm
    | ⟨3, _⟩ => (Nat.zero_add _).symm

/-- The reading of a block's rows, the sum's squares against the heads' indicator. -/
theorem reading_ix (o1 o2 o3 : Vec Ideal S1x512x256 .f32) (e : Vec Ideal S256x256 .bf16) (g : Vec Ideal S1x256 .f32)
    (u : Vec Ideal S1x512x256 .f32) (gh : Fin 64 → EReal)
    (ho : ∀ t k, ∃ r : ℝ, o1 (ix3 0 t k) + o2 (ix3 0 t k) + o3 (ix3 0 t k) = (r : EReal))
    (he : ∀ k d, e (ix2 k d) = same k d) (hg : ∀ d : Fin 256, g (ix2 0 d) = gh ⟨d.val % 64, by omega⟩)
    (t : Fin 512) (d : Fin 256) : k0_pay6 (k0_pay4 o1 o2) (k0_pay5 o3) e g u (ix2 t d)
      = reading (fun k => o1 (ix3 0 t k) + o2 (ix3 0 t k) + o3 (ix3 0 t k)) gh (fun k => u (ix3 0 t k)) d := by
  have s : ∀ k, k0_pay4 o1 o2 (ix2 t k) + k0_pay5 o3 (ix2 t k) = o1 (ix3 0 t k) + o2 (ix3 0 t k) + o3 (ix3 0 t k) := fun k => by
    unfold k0_pay4 k0_pay5
    pointwise
  unfold k0_pay6
  pointwise
  simp only [s, he, gate_eq, mean _ (ho t), hg]
  rfl

/-- A block of the result. -/
theorem out_ix (x : Vec Ideal S1x512x1024 .f32) (a b c : Vec Ideal S1x512x256 .bf16) (o1 o2 o3 u : Vec Ideal S1x512x256 .f32)
    (g : Vec Ideal S1x1024 .f32) (sh sc : Vec Ideal S1x1x1024 .f32) (wg : Vec Ideal S1x1024x4096 .bf16)
    (hgn : Vec Ideal S1x256 .f32) (e : Vec Ideal S256x256 .bf16) (wb : Vec Ideal S1x4x256x1024 .bf16)
    (wo : Vec Ideal S1x1024x1024 .bf16) (gt : Vec Ideal S1x1x1024 .f32) (gh : Fin 64 → EReal)
    (ho : ∀ t k, ∃ r : ℝ, o1 (ix3 0 t k) + o2 (ix3 0 t k) + o3 (ix3 0 t k) = (r : EReal))
    (he : ∀ k d, e (ix2 k d) = same k d) (hg : ∀ d : Fin 256, hgn (ix2 0 d) = gh ⟨d.val % 64, by omega⟩)
    (t : Fin 512) (d : Fin 1024) :
    out0_17 x a b c o1 o2 o3 u g sh sc wg hgn e wb wo gt (ix3 0 t d)
      = row (fun k => x (ix3 0 t k))
          (Rows.norm (fun k => x (ix3 0 t k)) (fun k => g (ix2 0 k)) (fun k => sc (ix3 0 0 k)) (fun k => sh (ix3 0 0 k)))
          (fun j k => wg (ix3 0 j k))
          (branches (fun k => a (ix3 0 t k)) (fun k => b (ix3 0 t k)) (fun k => c (ix3 0 t k))
            (reading (fun k => o1 (ix3 0 t k) + o2 (ix3 0 t k) + o3 (ix3 0 t k)) gh (fun k => u (ix3 0 t k))))
          (fun n j k => wb (ix4 0 n j k)) (fun j k => wo (ix3 0 j k)) (fun k => gt (ix3 0 0 k)) d := by
  unfold out0_17 k0_pay14
  rw [View.canon_cons_unit_lit _ _ _ (by decide)]
  rw [show View.ld x r0_0 = x from View.ld_unit_lit _ x (by decide), show View.ld a r0_3 = a from View.ld_unit_lit _ a (by decide),
    show View.ld b r0_3 = b from View.ld_unit_lit _ b (by decide), show View.ld c r0_3 = c from View.ld_unit_lit _ c (by decide),
    show View.ld o1 r0_3 = o1 from View.ld_unit_lit _ o1 (by decide), show View.ld o2 r0_3 = o2 from View.ld_unit_lit _ o2 (by decide),
    show View.ld o3 r0_3 = o3 from View.ld_unit_lit _ o3 (by decide), show View.ld u r0_3 = u from View.ld_unit_lit _ u (by decide),
    show View.ld g r0_1 = g from View.ld_unit_lit _ g (by decide), show View.ld sh r0_2 = sh from View.ld_unit_lit _ sh (by decide),
    show View.ld sc r0_2 = sc from View.ld_unit_lit _ sc (by decide), show View.ld gt r0_2 = gt from View.ld_unit_lit _ gt (by decide),
    show View.ld hgn r0_5 = hgn from View.ld_unit_lit _ hgn (by decide), show View.ld e r0_4 = e from View.ld_unit_lit _ e (by decide),
    show View.ld wo r0_14 = wo from View.ld_unit_lit _ wo (by decide)]
  unfold k0_pay1 k0_pay2 k0_pay12 k0_pay13 k0_pay10 k0_pay11 k0_pay7 k0_pay8 k0_pay9
  pointwise
  simp only [norm_ix, reading_ix o1 o2 o3 e hgn u gh ho he hg, wg0, wg1, wg2, wg3, wb0, wb1, wb2, wb3, gate_eq]
  unfold row
  simp only [mixed_four]

end Cert.Proof.Merge

end
-- ==== Proof.Merge.Table.First.lean ====
/- The heads' indicator table, first quarter: row `e` has the word of one in the first head's columns, zero elsewhere. -/
module

public import proofs.«01_k».proof.MergeIdeal

@[expose] public section

set_option maxRecDepth 100000

noncomputable section

namespace Cert.Proof.Merge.Table

open Cert.MergeIdeal

theorem rows0 : ∀ e : Fin 16, ∀ d : Fin 256,
    lit0t (256 * (0 + e.val) + d.val) = if d.val / 64 = 0 then 0x3F80#16 else 0#16 := by decide +kernel
theorem rows1 : ∀ e : Fin 16, ∀ d : Fin 256,
    lit0t (256 * (16 + e.val) + d.val) = if d.val / 64 = 0 then 0x3F80#16 else 0#16 := by decide +kernel
theorem rows2 : ∀ e : Fin 16, ∀ d : Fin 256,
    lit0t (256 * (32 + e.val) + d.val) = if d.val / 64 = 0 then 0x3F80#16 else 0#16 := by decide +kernel
theorem rows3 : ∀ e : Fin 16, ∀ d : Fin 256,
    lit0t (256 * (48 + e.val) + d.val) = if d.val / 64 = 0 then 0x3F80#16 else 0#16 := by decide +kernel

/-- The first quarter's rows. -/
theorem first (e : Nat) (h : 0 ≤ e) (h' : e < 64) (d : Fin 256) :
    lit0t (256 * e + d.val) = if d.val / 64 = 0 then 0x3F80#16 else 0#16 := by
  by_cases c0 : e < 16
  · have r := rows0 ⟨e - 0, by omega⟩ d
    rwa [show 0 + (e - 0) = e from by omega] at r
  by_cases c1 : e < 32
  · have r := rows1 ⟨e - 16, by omega⟩ d
    rwa [show 16 + (e - 16) = e from by omega] at r
  by_cases c2 : e < 48
  · have r := rows2 ⟨e - 32, by omega⟩ d
    rwa [show 32 + (e - 32) = e from by omega] at r
  · have r := rows3 ⟨e - 48, by omega⟩ d
    rwa [show 48 + (e - 48) = e from by omega] at r

end Cert.Proof.Merge.Table

end
-- ==== Proof.Merge.Table.Second.lean ====
/- The heads' indicator table, second quarter: row `e` has the word of one in the second head's columns, zero elsewhere. -/
module

public import proofs.«01_k».proof.MergeIdeal

@[expose] public section

set_option maxRecDepth 100000

noncomputable section

namespace Cert.Proof.Merge.Table

open Cert.MergeIdeal

theorem rows4 : ∀ e : Fin 16, ∀ d : Fin 256,
    lit0t (256 * (64 + e.val) + d.val) = if d.val / 64 = 1 then 0x3F80#16 else 0#16 := by decide +kernel
theorem rows5 : ∀ e : Fin 16, ∀ d : Fin 256,
    lit0t (256 * (80 + e.val) + d.val) = if d.val / 64 = 1 then 0x3F80#16 else 0#16 := by decide +kernel
theorem rows6 : ∀ e : Fin 16, ∀ d : Fin 256,
    lit0t (256 * (96 + e.val) + d.val) = if d.val / 64 = 1 then 0x3F80#16 else 0#16 := by decide +kernel
theorem rows7 : ∀ e : Fin 16, ∀ d : Fin 256,
    lit0t (256 * (112 + e.val) + d.val) = if d.val / 64 = 1 then 0x3F80#16 else 0#16 := by decide +kernel

/-- The second quarter's rows. -/
theorem second (e : Nat) (h : 64 ≤ e) (h' : e < 128) (d : Fin 256) :
    lit0t (256 * e + d.val) = if d.val / 64 = 1 then 0x3F80#16 else 0#16 := by
  by_cases c0 : e < 80
  · have r := rows4 ⟨e - 64, by omega⟩ d
    rwa [show 64 + (e - 64) = e from by omega] at r
  by_cases c1 : e < 96
  · have r := rows5 ⟨e - 80, by omega⟩ d
    rwa [show 80 + (e - 80) = e from by omega] at r
  by_cases c2 : e < 112
  · have r := rows6 ⟨e - 96, by omega⟩ d
    rwa [show 96 + (e - 96) = e from by omega] at r
  · have r := rows7 ⟨e - 112, by omega⟩ d
    rwa [show 112 + (e - 112) = e from by omega] at r

end Cert.Proof.Merge.Table

end
-- ==== Proof.Merge.Table.Third.lean ====
/- The heads' indicator table, third quarter: row `e` has the word of one in the third head's columns, zero elsewhere. -/
module

public import proofs.«01_k».proof.MergeIdeal

@[expose] public section

set_option maxRecDepth 100000

noncomputable section

namespace Cert.Proof.Merge.Table

open Cert.MergeIdeal

theorem rows8 : ∀ e : Fin 16, ∀ d : Fin 256,
    lit0t (256 * (128 + e.val) + d.val) = if d.val / 64 = 2 then 0x3F80#16 else 0#16 := by decide +kernel
theorem rows9 : ∀ e : Fin 16, ∀ d : Fin 256,
    lit0t (256 * (144 + e.val) + d.val) = if d.val / 64 = 2 then 0x3F80#16 else 0#16 := by decide +kernel
theorem rows10 : ∀ e : Fin 16, ∀ d : Fin 256,
    lit0t (256 * (160 + e.val) + d.val) = if d.val / 64 = 2 then 0x3F80#16 else 0#16 := by decide +kernel
theorem rows11 : ∀ e : Fin 16, ∀ d : Fin 256,
    lit0t (256 * (176 + e.val) + d.val) = if d.val / 64 = 2 then 0x3F80#16 else 0#16 := by decide +kernel

/-- The third quarter's rows. -/
theorem third (e : Nat) (h : 128 ≤ e) (h' : e < 192) (d : Fin 256) :
    lit0t (256 * e + d.val) = if d.val / 64 = 2 then 0x3F80#16 else 0#16 := by
  by_cases c0 : e < 144
  · have r := rows8 ⟨e - 128, by omega⟩ d
    rwa [show 128 + (e - 128) = e from by omega] at r
  by_cases c1 : e < 160
  · have r := rows9 ⟨e - 144, by omega⟩ d
    rwa [show 144 + (e - 144) = e from by omega] at r
  by_cases c2 : e < 176
  · have r := rows10 ⟨e - 160, by omega⟩ d
    rwa [show 160 + (e - 160) = e from by omega] at r
  · have r := rows11 ⟨e - 176, by omega⟩ d
    rwa [show 176 + (e - 176) = e from by omega] at r

end Cert.Proof.Merge.Table

end
-- ==== Proof.Merge.Table.Fourth.lean ====
/- The heads' indicator table, fourth quarter: row `e` has the word of one in the fourth head's columns, zero elsewhere. -/
module

public import proofs.«01_k».proof.MergeIdeal

@[expose] public section

set_option maxRecDepth 100000

noncomputable section

namespace Cert.Proof.Merge.Table

open Cert.MergeIdeal

theorem rows12 : ∀ e : Fin 16, ∀ d : Fin 256,
    lit0t (256 * (192 + e.val) + d.val) = if d.val / 64 = 3 then 0x3F80#16 else 0#16 := by decide +kernel
theorem rows13 : ∀ e : Fin 16, ∀ d : Fin 256,
    lit0t (256 * (208 + e.val) + d.val) = if d.val / 64 = 3 then 0x3F80#16 else 0#16 := by decide +kernel
theorem rows14 : ∀ e : Fin 16, ∀ d : Fin 256,
    lit0t (256 * (224 + e.val) + d.val) = if d.val / 64 = 3 then 0x3F80#16 else 0#16 := by decide +kernel
theorem rows15 : ∀ e : Fin 16, ∀ d : Fin 256,
    lit0t (256 * (240 + e.val) + d.val) = if d.val / 64 = 3 then 0x3F80#16 else 0#16 := by decide +kernel

/-- The fourth quarter's rows. -/
theorem fourth (e : Nat) (h : 192 ≤ e) (h' : e < 256) (d : Fin 256) :
    lit0t (256 * e + d.val) = if d.val / 64 = 3 then 0x3F80#16 else 0#16 := by
  by_cases c0 : e < 208
  · have r := rows12 ⟨e - 192, by omega⟩ d
    rwa [show 192 + (e - 192) = e from by omega] at r
  by_cases c1 : e < 224
  · have r := rows13 ⟨e - 208, by omega⟩ d
    rwa [show 208 + (e - 208) = e from by omega] at r
  by_cases c2 : e < 240
  · have r := rows14 ⟨e - 224, by omega⟩ d
    rwa [show 224 + (e - 224) = e from by omega] at r
  · have r := rows15 ⟨e - 240, by omega⟩ d
    rwa [show 240 + (e - 240) = e from by omega] at r

end Cert.Proof.Merge.Table

end
-- ==== Proof.Merge.Value.lean ====
/- The merge call's result over the extended reals: the blocks at a point of the grid from the arguments, then the whole array, which
   is the reference's where the reading's three parts add up to real numbers. -/
module

public import proofs.«01_k».proof.Proof.Gen.MergeIdeal.Value
public import proofs.«01_k».proof.Proof.Merge.Reference
public import proofs.«01_k».proof.Proof.Merge.Block
public import proofs.«01_k».proof.Proof.Merge.Table.First
public import proofs.«01_k».proof.Proof.Merge.Table.Second
public import proofs.«01_k».proof.Proof.Merge.Table.Third
public import proofs.«01_k».proof.Proof.Merge.Table.Fourth
public import Idealize.ShloMosaic.Lib.Pipeline.ValueKit.Point
public import Idealize.ShloMosaic.Lib.Pipeline.ValueKit.Geometry
public import Idealize.ShloMosaic.Lib.Pipeline.ValueKit.Tiles

@[expose] public section

set_option maxRecDepth 16384

noncomputable section

namespace Cert.Proof.Merge

open Idealize.ShloMosaic Idealize.ShloMosaic.TcCoe Idealize.SL.Sem
open Idealize.ShloMosaic.Pipeline (Dat Cfg Window)
open Cert.MergeIdeal Cert.MergeIdeal.Gen

variable (m : (ℓ : Loc nD τ sig) → Buf (Elt Ideal) ℓ) (ρ : Dev nD → PrngReg)

/-! ## The blocks at a point of the grid -/

theorem ind0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem ind1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem ind2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem ind3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])
theorem ind4 : ∀ t : Fin cfg0.N, win0_4.index t = ![(grid0.coords t 0).val, (grid0.coords t 1).val, 0] :=
  (by decide +kernel : ∀ t : Fin grid0.N, win0_4.index t = ![(grid0.coords t 0).val, (grid0.coords t 1).val, 0])
theorem ind5 : ∀ t : Fin cfg0.N, win0_5.index t = ![(grid0.coords t 0).val, (grid0.coords t 1).val, 0] :=
  (by decide +kernel : ∀ t : Fin grid0.N, win0_5.index t = ![(grid0.coords t 0).val, (grid0.coords t 1).val, 0])
theorem ind6 : ∀ t : Fin cfg0.N, win0_6.index t = ![(grid0.coords t 0).val, (grid0.coords t 1).val, 0] :=
  (by decide +kernel : ∀ t : Fin grid0.N, win0_6.index t = ![(grid0.coords t 0).val, (grid0.coords t 1).val, 0])
theorem ind7 : ∀ t : Fin cfg0.N, win0_7.index t = ![(grid0.coords t 0).val, (grid0.coords t 1).val, 10] :=
  (by decide +kernel : ∀ t : Fin grid0.N, win0_7.index t = ![(grid0.coords t 0).val, (grid0.coords t 1).val, 10])
theorem ind8 : ∀ t : Fin cfg0.N, win0_8.index t = ![0, 0] :=
  (by decide +kernel : ∀ t : Fin grid0.N, win0_8.index t = ![0, 0])
theorem ind9 : ∀ t : Fin cfg0.N, win0_9.index t = ![(grid0.coords t 0).val, 0, 0] :=
  (by decide +kernel : ∀ t : Fin grid0.N, win0_9.index t = ![(grid0.coords t 0).val, 0, 0])
theorem ind10 : ∀ t : Fin cfg0.N, win0_10.index t = ![(grid0.coords t 0).val, 0, 1] :=
  (by decide +kernel : ∀ t : Fin grid0.N, win0_10.index t = ![(grid0.coords t 0).val, 0, 1])
theorem ind11 : ∀ t : Fin cfg0.N, win0_11.index t = ![1, 0, 0] :=
  (by decide +kernel : ∀ t : Fin grid0.N, win0_11.index t = ![1, 0, 0])
theorem ind12 : ∀ t : Fin cfg0.N, win0_12.index t = ![0, 0] :=
  (by decide +kernel : ∀ t : Fin grid0.N, win0_12.index t = ![0, 0])
theorem ind13 : ∀ t : Fin cfg0.N, win0_13.index t = ![0, 0] :=
  (by decide +kernel : ∀ t : Fin grid0.N, win0_13.index t = ![0, 0])
theorem ind14 : ∀ t : Fin cfg0.N, win0_14.index t = ![1, 0, 0, 0] :=
  (by decide +kernel : ∀ t : Fin grid0.N, win0_14.index t = ![1, 0, 0, 0])
theorem ind15 : ∀ t : Fin cfg0.N, win0_15.index t = ![1, 0, 0] :=
  (by decide +kernel : ∀ t : Fin grid0.N, win0_15.index t = ![1, 0, 0])
theorem ind16 : ∀ t : Fin cfg0.N, win0_16.index t = ![(grid0.coords t 0).val, 0, 2] :=
  (by decide +kernel : ∀ t : Fin grid0.N, win0_16.index t = ![(grid0.coords t 0).val, 0, 2])
theorem ind17 : ∀ t : Fin cfg0.N, win0_17.index t = ![(grid0.coords t 0).val, (grid0.coords t 1).val, 0] :=
  (by decide +kernel : ∀ t : Fin grid0.N, win0_17.index t = ![(grid0.coords t 0).val, (grid0.coords t 1).val, 0])

/-- Token `i` of a point's block in its batch. -/
def tok (t : Fin cfg0.N) (i : Fin 512) : Fin 4096 :=
  ⟨512 * (grid0.coords t 1).val + i.val, by have h : (grid0.coords t 1).val < 8 := (grid0.coords t 1).isLt; omega⟩

theorem blk0 (c : Dev nD) (t : Fin cfg0.N) (i : Fin 512) (d : Fin 1024) : (iblk m c 0 t : Vec Ideal S1x512x1024 .f32) (ix3 0 i d)
    = m ((c : Thread nD τ).loc main_arg0) (ix3 (grid0.coords t 0) (tok t i) d) := by
  unfold iblk
  rw [View.read_apply, show V m c (Pipeline.arrRef spec0 0) = _ from V_main_arg0 m c]
  refine congrArg (m ((c : Thread nD τ).loc main_arg0)) (funext fun a => Fin.ext ?_)
  match a with
  | ⟨0, _⟩ => show win0_0.index t 0 * 1 + 1 * 0 = (grid0.coords t 0).val; rw [ind0]; simp
  | ⟨1, _⟩ => show win0_0.index t 1 * 512 + 1 * i.val = 512 * (grid0.coords t 1).val + i.val; rw [ind0]; simp; omega
  | ⟨2, _⟩ => show win0_0.index t 2 * 1024 + 1 * d.val = d.val; rw [ind0]; simp

theorem blk1 (c : Dev nD) (t : Fin cfg0.N) (i : Fin 512) (d : Fin 256) : (iblk m c 1 t : Vec Ideal S1x512x256 .bf16) (ix3 0 i d)
    = m ((c : Thread nD τ).loc main_arg1) (ix3 (grid0.coords t 0) (tok t i) d) := by
  unfold iblk
  rw [View.read_apply, show V m c (Pipeline.arrRef spec0 1) = _ from V_main_arg1 m c]
  refine congrArg (m ((c : Thread nD τ).loc main_arg1)) (funext fun a => Fin.ext ?_)
  match a with
  | ⟨0, _⟩ => show win0_1.index t 0 * 1 + 1 * 0 = (grid0.coords t 0).val; rw [ind1]; simp
  | ⟨1, _⟩ => show win0_1.index t 1 * 512 + 1 * i.val = 512 * (grid0.coords t 1).val + i.val; rw [ind1]; simp; omega
  | ⟨2, _⟩ => show win0_1.index t 2 * 256 + 1 * d.val = d.val; rw [ind1]; simp

theorem blk2 (c : Dev nD) (t : Fin cfg0.N) (i : Fin 512) (d : Fin 256) : (iblk m c 2 t : Vec Ideal S1x512x256 .bf16) (ix3 0 i d)
    = m ((c : Thread nD τ).loc main_arg2) (ix3 (grid0.coords t 0) (tok t i) d) := by
  unfold iblk
  rw [View.read_apply, show V m c (Pipeline.arrRef spec0 2) = _ from V_main_arg2 m c]
  refine congrArg (m ((c : Thread nD τ).loc main_arg2)) (funext fun a => Fin.ext ?_)
  match a with
  | ⟨0, _⟩ => show win0_2.index t 0 * 1 + 1 * 0 = (grid0.coords t 0).val; rw [ind2]; simp
  | ⟨1, _⟩ => show win0_2.index t 1 * 512 + 1 * i.val = 512 * (grid0.coords t 1).val + i.val; rw [ind2]; simp; omega
  | ⟨2, _⟩ => show win0_2.index t 2 * 256 + 1 * d.val = d.val; rw [ind2]; simp

theorem blk3 (c : Dev nD) (t : Fin cfg0.N) (i : Fin 512) (d : Fin 256) : (iblk m c 3 t : Vec Ideal S1x512x256 .bf16) (ix3 0 i d)
    = m ((c : Thread nD τ).loc main_arg3) (ix3 (grid0.coords t 0) (tok t i) d) := by
  unfold iblk
  rw [View.read_apply, show V m c (Pipeline.arrRef spec0 3) = _ from V_main_arg3 m c]
  refine congrArg (m ((c : Thread nD τ).loc main_arg3)) (funext fun a => Fin.ext ?_)
  match a with
  | ⟨0, _⟩ => show win0_3.index t 0 * 1 + 1 * 0 = (grid0.coords t 0).val; rw [ind3]; simp
  | ⟨1, _⟩ => show win0_3.index t 1 * 512 + 1 * i.val = 512 * (grid0.coords t 1).val + i.val; rw [ind3]; simp; omega
  | ⟨2, _⟩ => show win0_3.index t 2 * 256 + 1 * d.val = d.val; rw [ind3]; simp

theorem blk4 (c : Dev nD) (t : Fin cfg0.N) (i : Fin 512) (d : Fin 256) : (iblk m c 4 t : Vec Ideal S1x512x256 .f32) (ix3 0 i d)
    = m ((c : Thread nD τ).loc main_arg4) (ix3 (grid0.coords t 0) (tok t i) d) := by
  unfold iblk
  rw [View.read_apply, show V m c (Pipeline.arrRef spec0 4) = _ from V_main_arg4 m c]
  refine congrArg (m ((c : Thread nD τ).loc main_arg4)) (funext fun a => Fin.ext ?_)
  match a with
  | ⟨0, _⟩ => show win0_4.index t 0 * 1 + 1 * 0 = (grid0.coords t 0).val; rw [ind4]; simp
  | ⟨1, _⟩ => show win0_4.index t 1 * 512 + 1 * i.val = 512 * (grid0.coords t 1).val + i.val; rw [ind4]; simp; omega
  | ⟨2, _⟩ => show win0_4.index t 2 * 256 + 1 * d.val = d.val; rw [ind4]; simp

theorem blk5 (c : Dev nD) (t : Fin cfg0.N) (i : Fin 512) (d : Fin 256) : (iblk m c 5 t : Vec Ideal S1x512x256 .f32) (ix3 0 i d)
    = m ((c : Thread nD τ).loc main_arg5) (ix3 (grid0.coords t 0) (tok t i) d) := by
  unfold iblk
  rw [View.read_apply, show V m c (Pipeline.arrRef spec0 5) = _ from V_main_arg5 m c]
  refine congrArg (m ((c : Thread nD τ).loc main_arg5)) (funext fun a => Fin.ext ?_)
  match a with
  | ⟨0, _⟩ => show win0_5.index t 0 * 1 + 1 * 0 = (grid0.coords t 0).val; rw [ind5]; simp
  | ⟨1, _⟩ => show win0_5.index t 1 * 512 + 1 * i.val = 512 * (grid0.coords t 1).val + i.val; rw [ind5]; simp; omega
  | ⟨2, _⟩ => show win0_5.index t 2 * 256 + 1 * d.val = d.val; rw [ind5]; simp

theorem blk6 (c : Dev nD) (t : Fin cfg0.N) (i : Fin 512) (d : Fin 256) : (iblk m c 6 t : Vec Ideal S1x512x256 .f32) (ix3 0 i d)
    = m ((c : Thread nD τ).loc main_arg6) (ix3 (grid0.coords t 0) (tok t i) d) := by
  unfold iblk
  rw [View.read_apply, show V m c (Pipeline.arrRef spec0 6) = _ from V_main_arg6 m c]
  refine congrArg (m ((c : Thread nD τ).loc main_arg6)) (funext fun a => Fin.ext ?_)
  match a with
  | ⟨0, _⟩ => show win0_6.index t 0 * 1 + 1 * 0 = (grid0.coords t 0).val; rw [ind6]; simp
  | ⟨1, _⟩ => show win0_6.index t 1 * 512 + 1 * i.val = 512 * (grid0.coords t 1).val + i.val; rw [ind6]; simp; omega
  | ⟨2, _⟩ => show win0_6.index t 2 * 256 + 1 * d.val = d.val; rw [ind6]; simp

theorem blk7 (c : Dev nD) (t : Fin cfg0.N) (i : Fin 512) (d : Fin 256) : (iblk m c 7 t : Vec Ideal S1x512x256 .f32) (ix3 0 i d)
    = m ((c : Thread nD τ).loc main_arg7) (ix3 (grid0.coords t 0) (tok t i) ⟨2560 + d.val, by omega⟩) := by
  unfold iblk
  rw [View.read_apply, show V m c (Pipeline.arrRef spec0 7) = _ from V_main_arg7 m c]
  refine congrArg (m ((c : Thread nD τ).loc main_arg7)) (funext fun a => Fin.ext ?_)
  match a with
  | ⟨0, _⟩ => show win0_7.index t 0 * 1 + 1 * 0 = (grid0.coords t 0).val; rw [ind7]; simp
  | ⟨1, _⟩ => show win0_7.index t 1 * 512 + 1 * i.val = 512 * (grid0.coords t 1).val + i.val; rw [ind7]; simp; omega
  | ⟨2, _⟩ => show win0_7.index t 2 * 256 + 1 * d.val = 2560 + d.val; rw [ind7]; simp

theorem blk8 (c : Dev nD) (t : Fin cfg0.N) (d : Fin 1024) : (iblk m c 8 t : Vec Ideal S1x1024 .f32) (ix2 0 d)
    = m ((c : Thread nD τ).loc main_arg9) (ix2 1 d) := by
  have e : (iblk m c 8 t : Vec Ideal S1x1024 .f32) (ix2 0 d) = V m c (Pipeline.arrRef spec0 8) (ix2 0 d) := by
    unfold iblk
    rw [View.read_apply]
    refine congrArg (V m c (Pipeline.arrRef spec0 8)) (funext fun a => Fin.ext ?_)
    match a with
    | ⟨0, _⟩ => show win0_8.index t 0 * 1 + 1 * 0 = 0; rw [ind8]; simp
    | ⟨1, _⟩ => show win0_8.index t 1 * 1024 + 1 * d.val = d.val; rw [ind8]; simp
  rw [e]
  entry_read
  pointwise

theorem blk9 (c : Dev nD) (t : Fin cfg0.N) (d : Fin 1024) : (iblk m c 9 t : Vec Ideal S1x1x1024 .f32) (ix3 0 0 d)
    = m ((c : Thread nD τ).loc main_arg8) (ix3 (grid0.coords t 0) 0 ⟨d.val, by omega⟩) := by
  unfold iblk
  rw [View.read_apply, show V m c (Pipeline.arrRef spec0 9) = _ from V_main_arg8 m c]
  refine congrArg (m ((c : Thread nD τ).loc main_arg8)) (funext fun a => Fin.ext ?_)
  match a with
  | ⟨0, _⟩ => show win0_9.index t 0 * 1 + 1 * 0 = (grid0.coords t 0).val; rw [ind9]; simp
  | ⟨1, _⟩ => show win0_9.index t 1 * 1 + 1 * 0 = 0; rw [ind9]; simp
  | ⟨2, _⟩ => show win0_9.index t 2 * 1024 + 1 * d.val = d.val; rw [ind9]; simp

theorem blk10 (c : Dev nD) (t : Fin cfg0.N) (d : Fin 1024) : (iblk m c 10 t : Vec Ideal S1x1x1024 .f32) (ix3 0 0 d)
    = m ((c : Thread nD τ).loc main_arg8) (ix3 (grid0.coords t 0) 0 ⟨1024 + d.val, by omega⟩) := by
  unfold iblk
  rw [View.read_apply, show V m c (Pipeline.arrRef spec0 10) = _ from V_main_arg8 m c]
  refine congrArg (m ((c : Thread nD τ).loc main_arg8)) (funext fun a => Fin.ext ?_)
  match a with
  | ⟨0, _⟩ => show win0_10.index t 0 * 1 + 1 * 0 = (grid0.coords t 0).val; rw [ind10]; simp
  | ⟨1, _⟩ => show win0_10.index t 1 * 1 + 1 * 0 = 0; rw [ind10]; simp
  | ⟨2, _⟩ => show win0_10.index t 2 * 1024 + 1 * d.val = 1024 + d.val; rw [ind10]; simp

theorem blk16 (c : Dev nD) (t : Fin cfg0.N) (d : Fin 1024) : (iblk m c 16 t : Vec Ideal S1x1x1024 .f32) (ix3 0 0 d)
    = m ((c : Thread nD τ).loc main_arg8) (ix3 (grid0.coords t 0) 0 ⟨2048 + d.val, by omega⟩) := by
  unfold iblk
  rw [View.read_apply, show V m c (Pipeline.arrRef spec0 16) = _ from V_main_arg8 m c]
  refine congrArg (m ((c : Thread nD τ).loc main_arg8)) (funext fun a => Fin.ext ?_)
  match a with
  | ⟨0, _⟩ => show win0_16.index t 0 * 1 + 1 * 0 = (grid0.coords t 0).val; rw [ind16]; simp
  | ⟨1, _⟩ => show win0_16.index t 1 * 1 + 1 * 0 = 0; rw [ind16]; simp
  | ⟨2, _⟩ => show win0_16.index t 2 * 1024 + 1 * d.val = 2048 + d.val; rw [ind16]; simp

theorem blk11 (c : Dev nD) (t : Fin cfg0.N) (j : Fin 1024) (k : Fin 4096) : (iblk m c 11 t : Vec Ideal S1x1024x4096 .bf16) (ix3 0 j k)
    = m ((c : Thread nD τ).loc main_arg10) (ix3 1 j k) := by
  unfold iblk
  rw [View.read_apply, show V m c (Pipeline.arrRef spec0 11) = _ from V_main_arg10 m c]
  refine congrArg (m ((c : Thread nD τ).loc main_arg10)) (funext fun a => Fin.ext ?_)
  match a with
  | ⟨0, _⟩ => show win0_11.index t 0 * 1 + 1 * 0 = 1; rw [ind11]; simp
  | ⟨1, _⟩ => show win0_11.index t 1 * 1024 + 1 * j.val = j.val; rw [ind11]; simp
  | ⟨2, _⟩ => show win0_11.index t 2 * 4096 + 1 * k.val = k.val; rw [ind11]; simp

/-- The heads' gains, tiled over the row. -/
theorem blk12 (c : Dev nD) (t : Fin cfg0.N) (d : Fin 256) : (iblk m c 12 t : Vec Ideal S1x256 .f32) (ix2 0 d)
    = m ((c : Thread nD τ).loc main_arg11) (ix2 1 ⟨d.val % 64, by omega⟩) := by
  have e : (iblk m c 12 t : Vec Ideal S1x256 .f32) (ix2 0 d) = V m c (Pipeline.arrRef spec0 12) (ix2 0 d) := by
    unfold iblk
    rw [View.read_apply]
    refine congrArg (V m c (Pipeline.arrRef spec0 12)) (funext fun a => Fin.ext ?_)
    match a with
    | ⟨0, _⟩ => show win0_12.index t 0 * 1 + 1 * 0 = 0; rw [ind12]; simp
    | ⟨1, _⟩ => show win0_12.index t 1 * 256 + 1 * d.val = d.val; rw [ind12]; simp
  rw [e]
  entry_read
  pointwise

/-- The table is the heads' indicator. -/
theorem table (e d : Fin 256) :
    (FloatOps.ofBits (F := Ideal) .bf16 (lit0 (S256x256.rowMajor (ix2 e d))) : EReal) = same e d := by
  have r : lit0 (S256x256.rowMajor (ix2 e d)) = lit0t (256 * e.val + d.val) :=
    congrArg lit0t (show (S256x256.rowMajor (ix2 e d)).val = 256 * e.val + d.val from
      (Shape.rowMajor_val_two (ix2 e d)).trans (by show e.val * 256 + d.val = _; omega))
  have w : lit0t (256 * e.val + d.val) = if e.val / 64 = d.val / 64 then 0x3F80#16 else 0#16 := by
    have he := e.isLt
    by_cases h1 : e.val < 64
    · rw [Table.first e.val (by omega) h1 d, show e.val / 64 = 0 from by omega]
      exact if_congr eq_comm rfl rfl
    by_cases h2 : e.val < 128
    · rw [Table.second e.val (by omega) h2 d, show e.val / 64 = 1 from by omega]
      exact if_congr eq_comm rfl rfl
    by_cases h3 : e.val < 192
    · rw [Table.third e.val (by omega) h3 d, show e.val / 64 = 2 from by omega]
      exact if_congr eq_comm rfl rfl
    · rw [Table.fourth e.val (by omega) (by omega) d, show e.val / 64 = 3 from by omega]
      exact if_congr eq_comm rfl rfl
  rw [r, w]
  unfold same
  split
  · show Ideal.ofBits .bf16 0x3F80#16 = 1
    simp [Ideal.ofBits, Ideal.ieee]
    rw [← EReal.coe_mul]
    norm_num
  · show Ideal.ofBits .bf16 0#16 = 0
    simp [Ideal.ofBits, Ideal.ieee]

theorem blk13 (c : Dev nD) (t : Fin cfg0.N) (k d : Fin 256) : (iblk m c 13 t : Vec Ideal S256x256 .bf16) (ix2 k d)
    = same k d := by
  have e : (iblk m c 13 t : Vec Ideal S256x256 .bf16) (ix2 k d) = V m c (Pipeline.arrRef spec0 13) (ix2 k d) := by
    unfold iblk
    rw [View.read_apply]
    refine congrArg (V m c (Pipeline.arrRef spec0 13)) (funext fun a => Fin.ext ?_)
    match a with
    | ⟨0, _⟩ => show win0_13.index t 0 * 256 + 1 * k.val = k.val; rw [ind13]; simp
    | ⟨1, _⟩ => show win0_13.index t 1 * 256 + 1 * d.val = d.val; rw [ind13]; simp
  rw [e]
  entry_read
  exact table k d

theorem blk14 (c : Dev nD) (t : Fin cfg0.N) (n : Fin 4) (j : Fin 256) (k : Fin 1024) : (iblk m c 14 t : Vec Ideal S1x4x256x1024 .bf16) (ix4 0 n j k)
    = m ((c : Thread nD τ).loc main_arg12) (ix4 1 n j k) := by
  have e : (iblk m c 14 t : Vec Ideal S1x4x256x1024 .bf16) (ix4 0 n j k) = V m c (Pipeline.arrRef spec0 14) (ix4 1 n j k) := by
    unfold iblk
    rw [View.read_apply]
    refine congrArg (V m c (Pipeline.arrRef spec0 14)) (funext fun a => Fin.ext ?_)
    match a with
    | ⟨0, _⟩ => show win0_14.index t 0 * 1 + 1 * 0 = 1; rw [ind14]; simp
    | ⟨1, _⟩ => show win0_14.index t 1 * 4 + 1 * n.val = n.val; rw [ind14]; simp
    | ⟨2, _⟩ => show win0_14.index t 2 * 256 + 1 * j.val = j.val; rw [ind14]; simp
    | ⟨3, _⟩ => show win0_14.index t 3 * 1024 + 1 * k.val = k.val; rw [ind14]; simp
  rw [e]
  entry_read
  rfl

theorem blk15 (c : Dev nD) (t : Fin cfg0.N) (j k : Fin 1024) : (iblk m c 15 t : Vec Ideal S1x1024x1024 .bf16) (ix3 0 j k)
    = m ((c : Thread nD τ).loc main_arg13) (ix3 1 j k) := by
  have e : (iblk m c 15 t : Vec Ideal S1x1024x1024 .bf16) (ix3 0 j k) = V m c (Pipeline.arrRef spec0 15) (ix3 1 j k) := by
    unfold iblk
    rw [View.read_apply]
    refine congrArg (V m c (Pipeline.arrRef spec0 15)) (funext fun a => Fin.ext ?_)
    match a with
    | ⟨0, _⟩ => show win0_15.index t 0 * 1 + 1 * 0 = 1; rw [ind15]; simp
    | ⟨1, _⟩ => show win0_15.index t 1 * 1024 + 1 * j.val = j.val; rw [ind15]; simp
    | ⟨2, _⟩ => show win0_15.index t 2 * 1024 + 1 * k.val = k.val; rw [ind15]; simp
  rw [e]
  entry_read
  rfl

/-! ## The whole array -/

/-- The result array as the reference's. -/
def whole (c : Dev nD) : Vec Ideal S4x4096x1024 .f32 :=
  Cert.MergeRefIdeal.Read.val_main_v84 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- The reading's three parts. -/
def part1 (c : Dev nD) : Vec Ideal S4x4096x256 .f32 := m ((c : Thread nD τ).loc main_arg4)
def part2 (c : Dev nD) : Vec Ideal S4x4096x256 .f32 := m ((c : Thread nD τ).loc main_arg5)
def part3 (c : Dev nD) : Vec Ideal S4x4096x256 .f32 := m ((c : Thread nD τ).loc main_arg6)

/-- The three parts add up to real numbers. -/
def Real_ (c : Dev nD) : Prop :=
  ∀ (b : Fin 4) (t : Fin 4096) (k : Fin 256), ∃ r : ℝ,
    part1 m c (ix3 b t k) + part2 m c (ix3 b t k) + part3 m c (ix3 b t k) = (r : EReal)

/-- After the run the result array is the reference's. -/
theorem result (c : Dev nD) (h : Real_ m c) : (dats m 0 c).arrAt 17 cfg0.N = whole m c := by
  refine (dats m 0 c).arrAt_eq_of_covers 17 _ (by decide +kernel) fun t hf y => ?_
  blk_simp
  rw [after0_17]
  obtain ⟨i, d, rfl⟩ : ∃ (i : Fin 512) (d : Fin 1024), y = ix3 0 i d := ⟨y 1, y 2, by
    have y0 : (y 0).val < 1 := (y 0).isLt
    funext a
    match a with
    | ⟨0, _⟩ => apply Fin.ext; show (y 0).val = 0; omega
    | ⟨1, _⟩ => rfl
    | ⟨2, _⟩ => rfl⟩
  have e : (win0_17.blk t).view.emb (ix3 0 i d) = ix3 (grid0.coords t 0) (tok t i) d := funext fun a => Fin.ext (by
    match a with
    | ⟨0, _⟩ => show win0_17.index t 0 * 1 + 1 * 0 = (grid0.coords t 0).val; rw [ind17]; simp
    | ⟨1, _⟩ => show win0_17.index t 1 * 512 + 1 * i.val = 512 * (grid0.coords t 1).val + i.val; rw [ind17]; simp; omega
    | ⟨2, _⟩ => show win0_17.index t 2 * 1024 + 1 * d.val = d.val; rw [ind17]; simp)
  refine Eq.trans ?_ (congrArg (whole m c) e).symm
  refine (out_ix _ _ _ _ _ _ _ _ _ _ _ _ _ _ _ _ _ (fun k => m ((c : Thread nD τ).loc main_arg11) (ix2 1 k)) ?_ (blk13 m c t) (blk12 m c t) i d).trans
    (Eq.trans ?_ (MergeRef.ref_ix _ _ _ _ _ _ _ _ _ _ _ _ _ _ (grid0.coords t 0) (tok t i) d).symm)
  · intro i k
    rw [blk4, blk5, blk6]
    exact h (grid0.coords t 0) (tok t i) k
  simp only [blk0, blk1, blk2, blk3, blk4, blk5, blk6, blk7, blk8, blk9, blk10, blk11, blk14, blk15, blk16]
  rfl

/-- The kernel run: the result is the reference's value at the arguments, which are unchanged. -/
theorem value (h : ∀ c, Real_ m c) : θ_run defs (onTc (τ := τ) (main (F := Ideal))) ⟨m, fun _ => 0, ρ⟩ fun r => ∀ c : Dev nD,
      r.2.mem ((c : Thread nD τ).loc main_v11) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r q c => ⟨((q c).1).trans (result m c (h c)), (q c).2⟩) (Cert.MergeIdeal.Value.run_blocks m ρ)

end Cert.Proof.Merge

end
-- ==== Proof.Merge.Finite.lean ====
/- What the precondition says of the reading's three parts: they add up to real numbers. -/
module

public import proofs.«01_k».proof.Pre_numbers
public import Idealize.ShloMosaic.Lib.Pointwise
public import Idealize.ShloMosaic.Lib.ValueIdx

@[expose] public section

noncomputable section

namespace Cert.Proof.Numbers

open Idealize.ShloMosaic Cert.Pre_numbers

instance facts : Cert.Pre_numbers.Facts where
  bcast_S_S4x4096x256 := by decide

theorem word_inf : (Ideal.ofBits .f32 0x7F800000#32 : EReal) = ⊤ := by simp [Ideal.ofBits, Ideal.ieee]

/-- An extended real that is neither infinity is a real number. -/
theorem real_of_lt (x : EReal) (h : max x (-x) < ⊤) : ∃ r : ℝ, x = (r : EReal) := by
  induction x with
  | bot => simp at h
  | coe r => exact ⟨r, rfl⟩
  | top => simp at h

variable (x : FVec Ideal S4x4096x1024 .f32) (a1 a2 a3 : FVec Ideal S4x4096x256 .bf16) (o1 o2 o3 : FVec Ideal S4x4096x256 .f32)
  (u : FVec Ideal S4x4096x2816 .f32) (md : FVec Ideal S4x1x6144 .f32) (g : FVec Ideal S2x1024 .f32)
  (wg : FVec Ideal S2x1024x4096 .bf16) (hg : FVec Ideal S2x64 .f32) (wb : FVec Ideal S2x4x256x1024 .f32)
  (wo : FVec Ideal S2x1024x1024 .f32)

/-- The three parts add up to real numbers. -/
theorem parts (e : fn (F := Ideal) x a1 a2 a3 o1 o2 o3 u md g wg hg wb wo = fun _ => 1#1) (b : Fin 4) (t : Fin 4096)
    (k : Fin 256) : ∃ r : ℝ, (o1 (ix3 b t k) + o2 (ix3 b t k) + o3 (ix3 b t k) : EReal) = (r : EReal) := by
  have e' := congrFun e (ix3 b t k)
  revert e'
  pointwise [fn]
  rw [word_inf]
  intro e'
  refine real_of_lt _ ?_
  by_contra hn
  rw [show ∀ x : EReal, FloatOps.absf (F := Ideal) (φ := .f32) x = max x (-x) from fun _ => rfl, decide_eq_false hn] at e'
  exact absurd e' (by decide)

end Cert.Proof.Numbers

end
-- ==== Proof.Inproj.Reference.lean ====
/- The input projection's reference, read entry by entry over the extended reals. -/
module

public import proofs.«01_k».proof.Proof.Gen.InprojRefIdeal.Read
public import proofs.«01_k».proof.Proof.Math.Rows
public import Idealize.ShloMosaic.Lib.Pointwise
public import Idealize.ShloMosaic.Lib.ValueIdx

@[expose] public section

noncomputable section

namespace Cert.Proof.InprojRef

open Idealize.ShloMosaic Cert.InprojRefIdeal Cert.InprojRefIdeal.Read

variable (x : Vec Ideal S4x4096x1024 .f32) (md : Vec Ideal S4x1x6144 .f32) (g : Vec Ideal S2x1024 .f32)
  (w : Vec Ideal S2x1024x2816 .bf16)

/-- The normed and modulated row: the modulation's first part shifts, its second scales. -/
theorem norm_ix (b : Fin 4) (t : Fin 4096) (d : Fin 1024) : val_main_v26 (F := Ideal) x md g (ix3 b t d)
    = Rows.norm (fun k => x (ix3 b t k)) (fun k => g (ix2 1 k)) (fun k => md (ix3 b 0 ⟨1024 + k.val, by omega⟩))
        (fun k => md (ix3 b 0 ⟨k.val, by omega⟩)) d := by
  unfold val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9
    val_main_v8 val_main_v7 val_main_v6 val_main_v1 val_main_v0 val_main_cst_2 val_main_cst_1 val_main_cst_0 val_main_cst
  unfold Rows.norm
  pointwise

/-- The whole: the row times the second layer's weights. -/
theorem ref_ix (b : Fin 4) (t : Fin 4096) (d : Fin 2816) : val_main_v30 (F := Ideal) x md g w (ix3 b t d)
    = ∑ j, Rows.norm (fun k => x (ix3 b t k)) (fun k => g (ix2 1 k)) (fun k => md (ix3 b 0 ⟨1024 + k.val, by omega⟩))
        (fun k => md (ix3 b 0 ⟨k.val, by omega⟩)) j * w (ix3 1 j d) := by
  unfold val_main_v30 val_main_v29 val_main_v28 val_main_v27
  pointwise
  simp only [norm_ix]

end Cert.Proof.InprojRef

end
-- ==== Proof.Inproj.Value.lean ====
/- The input projection's result: each block of it entry by entry over the extended reals, then the whole array, each entry a
   normed and modulated row times a column of the weights. -/
module

public import proofs.«01_k».proof.Proof.Gen.InprojIdeal.Value
public import proofs.«01_k».proof.Proof.Inproj.Reference
public import Idealize.ShloMosaic.Lib.Pipeline.ValueKit.Point
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.Proof.Inproj

open Idealize.ShloMosaic Idealize.ShloMosaic.TcCoe Idealize.SL.Sem
open Idealize.ShloMosaic.Pipeline (Dat Cfg Window)
open Cert.InprojIdeal Cert.InprojIdeal.Gen

/-- The normed rows of a block. -/
theorem norm_ix (x : Vec Ideal S1x512x1024 .f32) (g : Vec Ideal S1x1024 .f32) (sc sh : Vec Ideal S1x1x1024 .f32)
    (t : Fin 512) (d : Fin 1024) : k0_pay1 x g sc sh (ix2 t d)
      = Rows.norm (fun k => x (ix3 0 t k)) (fun k => g (ix2 0 k)) (fun k => sc (ix3 0 0 k)) (fun k => sh (ix3 0 0 k)) d := by
  unfold_payloads
  unfold Rows.norm
  pointwise

/-- A block of the result: the normed rows, left in the scratch buffer, times the weights. -/
theorem out_ix (x : Vec Ideal S1x512x1024 .f32) (g : Vec Ideal S1x1024 .f32) (sh sc : Vec Ideal S1x1x1024 .f32)
    (w : Vec Ideal S1x1024x2816 .bf16) (t : Fin 512) (d : Fin 2816) : k0_pay2 (k0_pay1 x g sc sh) w (ix3 0 t d)
      = ∑ j, Rows.norm (fun k => x (ix3 0 t k)) (fun k => g (ix2 0 k)) (fun k => sc (ix3 0 0 k)) (fun k => sh (ix3 0 0 k)) j
          * w (ix3 0 j d) := by
  unfold k0_pay2
  pointwise
  simp only [norm_ix]

variable (m : (ℓ : Loc nD τ sig) → Buf (Elt Ideal) ℓ) (ρ : Dev nD → PrngReg)

/-- What a point leaves in the result's staging buffer. -/
theorem left (c : Dev nD) (t : Fin cfg0.N) : outsAt0 m c t
    = k0_pay2 (k0_pay1 (iblk m c 0 t) (iblk m c 1 t) (iblk m c 3 t) (iblk m c 2 t)) (iblk m c 4 t) := by
  unfold outsAt0
  frame_out

/-! ## The blocks at a point of the grid -/

theorem ind0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem ind1 : ∀ t : Fin cfg0.N, win0_1.index t = ![0, 0] :=
  (by decide +kernel : ∀ t : Fin grid0.N, win0_1.index t = ![0, 0])
theorem ind2 : ∀ t : Fin cfg0.N, win0_2.index t = ![(grid0.coords t 0).val, 0, 0] :=
  (by decide +kernel : ∀ t : Fin grid0.N, win0_2.index t = ![(grid0.coords t 0).val, 0, 0])
theorem ind3 : ∀ t : Fin cfg0.N, win0_3.index t = ![(grid0.coords t 0).val, 0, 1] :=
  (by decide +kernel : ∀ t : Fin grid0.N, win0_3.index t = ![(grid0.coords t 0).val, 0, 1])
theorem ind4 : ∀ t : Fin cfg0.N, win0_4.index t = ![1, 0, 0] :=
  (by decide +kernel : ∀ t : Fin grid0.N, win0_4.index t = ![1, 0, 0])
theorem ind5 : ∀ t : Fin cfg0.N, win0_5.index t = ![(grid0.coords t 0).val, (grid0.coords t 1).val, 0] :=
  (by decide +kernel : ∀ t : Fin grid0.N, win0_5.index t = ![(grid0.coords t 0).val, (grid0.coords t 1).val, 0])

/-- Token `i` of a point's block in its batch. -/
def tok (t : Fin cfg0.N) (i : Fin 512) : Fin 4096 :=
  ⟨512 * (grid0.coords t 1).val + i.val, by have h : (grid0.coords t 1).val < 8 := (grid0.coords t 1).isLt; omega⟩

theorem blk0 (c : Dev nD) (t : Fin cfg0.N) (i : Fin 512) (d : Fin 1024) : (iblk m c 0 t : Vec Ideal S1x512x1024 .f32) (ix3 0 i d)
    = m ((c : Thread nD τ).loc main_arg0) (ix3 (grid0.coords t 0) (tok t i) d) := by
  unfold iblk
  rw [View.read_apply, show V m c (Pipeline.arrRef spec0 0) = _ from V_main_arg0 m c]
  refine congrArg (m ((c : Thread nD τ).loc main_arg0)) (funext fun a => Fin.ext ?_)
  match a with
  | ⟨0, _⟩ => show win0_0.index t 0 * 1 + 1 * 0 = (grid0.coords t 0).val; rw [ind0]; simp
  | ⟨1, _⟩ => show win0_0.index t 1 * 512 + 1 * i.val = 512 * (grid0.coords t 1).val + i.val; rw [ind0]; simp; omega
  | ⟨2, _⟩ => show win0_0.index t 2 * 1024 + 1 * d.val = d.val; rw [ind0]; simp

theorem blk1 (c : Dev nD) (t : Fin cfg0.N) (d : Fin 1024) : (iblk m c 1 t : Vec Ideal S1x1024 .f32) (ix2 0 d)
    = m ((c : Thread nD τ).loc main_arg2) (ix2 1 d) := by
  have e : (iblk m c 1 t : Vec Ideal S1x1024 .f32) (ix2 0 d) = V m c (Pipeline.arrRef spec0 1) (ix2 0 d) := by
    unfold iblk
    rw [View.read_apply]
    refine congrArg (V m c (Pipeline.arrRef spec0 1)) (funext fun a => Fin.ext ?_)
    match a with
    | ⟨0, _⟩ => show win0_1.index t 0 * 1 + 1 * 0 = 0; rw [ind1]; simp
    | ⟨1, _⟩ => show win0_1.index t 1 * 1024 + 1 * d.val = d.val; rw [ind1]; simp
  rw [e]
  entry_read
  pointwise

theorem blk2 (c : Dev nD) (t : Fin cfg0.N) (d : Fin 1024) : (iblk m c 2 t : Vec Ideal S1x1x1024 .f32) (ix3 0 0 d)
    = m ((c : Thread nD τ).loc main_arg1) (ix3 (grid0.coords t 0) 0 ⟨d.val, by omega⟩) := by
  unfold iblk
  rw [View.read_apply, show V m c (Pipeline.arrRef spec0 2) = _ from V_main_arg1 m c]
  refine congrArg (m ((c : Thread nD τ).loc main_arg1)) (funext fun a => Fin.ext ?_)
  match a with
  | ⟨0, _⟩ => show win0_2.index t 0 * 1 + 1 * 0 = (grid0.coords t 0).val; rw [ind2]; simp
  | ⟨1, _⟩ => show win0_2.index t 1 * 1 + 1 * 0 = 0; rw [ind2]; simp
  | ⟨2, _⟩ => show win0_2.index t 2 * 1024 + 1 * d.val = d.val; rw [ind2]; simp

theorem blk3 (c : Dev nD) (t : Fin cfg0.N) (d : Fin 1024) : (iblk m c 3 t : Vec Ideal S1x1x1024 .f32) (ix3 0 0 d)
    = m ((c : Thread nD τ).loc main_arg1) (ix3 (grid0.coords t 0) 0 ⟨1024 + d.val, by omega⟩) := by
  unfold iblk
  rw [View.read_apply, show V m c (Pipeline.arrRef spec0 3) = _ from V_main_arg1 m c]
  refine congrArg (m ((c : Thread nD τ).loc main_arg1)) (funext fun a => Fin.ext ?_)
  match a with
  | ⟨0, _⟩ => show win0_3.index t 0 * 1 + 1 * 0 = (grid0.coords t 0).val; rw [ind3]; simp
  | ⟨1, _⟩ => show win0_3.index t 1 * 1 + 1 * 0 = 0; rw [ind3]; simp
  | ⟨2, _⟩ => show win0_3.index t 2 * 1024 + 1 * d.val = 1024 + d.val; rw [ind3]; simp

theorem blk4 (c : Dev nD) (t : Fin cfg0.N) (j : Fin 1024) (k : Fin 2816) :
    (iblk m c 4 t : Vec Ideal S1x1024x2816 .bf16) (ix3 0 j k) = m ((c : Thread nD τ).loc main_arg3) (ix3 1 j k) := by
  unfold iblk
  rw [View.read_apply, show V m c (Pipeline.arrRef spec0 4) = _ from V_main_arg3 m c]
  refine congrArg (m ((c : Thread nD τ).loc main_arg3)) (funext fun a => Fin.ext ?_)
  match a with
  | ⟨0, _⟩ => show win0_4.index t 0 * 1 + 1 * 0 = 1; rw [ind4]; simp
  | ⟨1, _⟩ => show win0_4.index t 1 * 1024 + 1 * j.val = j.val; rw [ind4]; simp
  | ⟨2, _⟩ => show win0_4.index t 2 * 2816 + 1 * k.val = k.val; rw [ind4]; simp

/-! ## The whole array -/

/-- The result array as the reference's. -/
def whole (c : Dev nD) : Vec Ideal S4x4096x2816 .f32 :=
  Cert.InprojRefIdeal.Read.val_main_v30 (F := Ideal) (m ((c : Thread nD τ).loc main_arg0)) (m ((c : Thread nD τ).loc main_arg1))
    (m ((c : Thread nD τ).loc main_arg2)) (m ((c : Thread nD τ).loc main_arg3))

/-- After the run the result array is the reference's. -/
theorem result (c : Dev nD) : (dats m 0 c).arrAt 5 cfg0.N = whole m c := by
  refine (dats m 0 c).arrAt_eq_of_covers 5 _ (by decide +kernel) fun t hf y => ?_
  blk_simp
  rw [after0_5, left]
  obtain ⟨i, d, rfl⟩ : ∃ (i : Fin 512) (d : Fin 2816), y = ix3 0 i d := ⟨y 1, y 2, by
    have y0 : (y 0).val < 1 := (y 0).isLt
    funext a
    match a with
    | ⟨0, _⟩ => apply Fin.ext; show (y 0).val = 0; omega
    | ⟨1, _⟩ => rfl
    | ⟨2, _⟩ => rfl⟩
  have e : (win0_5.blk t).view.emb (ix3 0 i d) = ix3 (grid0.coords t 0) (tok t i) d := funext fun a => Fin.ext (by
    match a with
    | ⟨0, _⟩ => show win0_5.index t 0 * 1 + 1 * 0 = (grid0.coords t 0).val; rw [ind5]; simp
    | ⟨1, _⟩ => show win0_5.index t 1 * 512 + 1 * i.val = 512 * (grid0.coords t 1).val + i.val; rw [ind5]; simp; omega
    | ⟨2, _⟩ => show win0_5.index t 2 * 2816 + 1 * d.val = d.val; rw [ind5]; simp)
  refine Eq.trans ?_ (congrArg (whole m c) e).symm
  refine (out_ix _ _ _ _ _ i d).trans (Eq.trans ?_ (InprojRef.ref_ix _ _ _ _ (grid0.coords t 0) (tok t i) d).symm)
  simp only [blk0, blk1, blk2, blk3, blk4]

/-- The kernel run: the result is the reference's value at the arguments, which are unchanged. -/
theorem value : θ_run defs (onTc (τ := τ) (main (F := Ideal))) ⟨m, fun _ => 0, ρ⟩ fun r => ∀ c : Dev nD,
      r.2.mem ((c : Thread nD τ).loc main_v3) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1).trans (result m c), (h c).2⟩) (Cert.InprojIdeal.Value.run_blocks m ρ)

end Cert.Proof.Inproj

end
-- ==== Proof.Mods.Value.lean ====
/- The modulation call's result over the extended reals: each entry is the product of a row of conditions, each times its logistic
   function, with a column of the weights, and the bias; the reference's likewise. -/
module

public import proofs.«01_k».proof.Proof.Gen.ModsIdeal.Value
public import proofs.«01_k».proof.Proof.Gen.ModsRefIdeal.Read
public import proofs.«01_k».proof.Proof.Merge.Gate
public import Idealize.ShloMosaic.Lib.Pointwise
public import Idealize.ShloMosaic.Lib.ValueIdx
public import Idealize.ShloMosaic.Lib.Pipeline.ValueKit.Point
public import Idealize.ShloMosaic.Lib.Pipeline.ValueKit.Geometry
public import Idealize.ShloMosaic.Lib.Pipeline.ValueKit.Tiles

@[expose] public section

set_option maxRecDepth 16384

noncomputable section

namespace Cert.Proof.Mods

open Idealize.ShloMosaic Idealize.ShloMosaic.TcCoe Idealize.SL.Sem
open Idealize.ShloMosaic.Pipeline (Dat Cfg Window)
open Cert.ModsIdeal Cert.ModsIdeal.Gen

/-- An entry of the modulation from a row of conditions, a column of weights and a bias. -/
def entry (c w : Fin 1024 → EReal) (b : EReal) : EReal := ∑ k, c k * Merge.gate (c k) * w k + b

section Ref
open Cert.ModsRefIdeal.Read

/-- The reference's entries. -/
theorem ref_ix (c : Vec Ideal S4x1024 .f32) (cc : Vec Ideal S1024 .f32) (w : Vec Ideal S2x1024x6144 .f32)
    (b : Vec Ideal S2x6144 .f32) (l : Fin 2) (r : Fin 8) (d : Fin 6144) :
    val_main_v8 (F := Ideal) c cc w b (ix3 l r d)
      = entry (fun k => val_main_v2 (F := Ideal) c cc (ix2 r k)) (fun k => w (ix3 l k d)) (b (ix2 l d)) := by
  unfold val_main_v8 val_main_v7 val_main_v6 val_main_v5 val_main_v4 val_main_v3 val_main_call0_v5 val_main_call0_v4
    val_main_call0_v3 val_main_call0_v2 val_main_call0_v1 val_main_call0_v0 val_main_call0_cst val_main_call0_cst_0
  pointwise
  simp only [mul_comm (w _)]
  rfl

end Ref

/-- The kernel's entries of a block. -/
theorem out_ix (c : Vec Ideal S8x1024 .f32) (w : Vec Ideal S1x1024x1536 .f32) (b : Vec Ideal S1x1x1536 .f32) (r : Fin 8)
    (d : Fin 1536) : out0_3 c w b (ix3 0 r d)
      = entry (fun k => c (ix2 r k)) (fun k => w (ix3 0 k d)) (b (ix3 0 0 d)) := by
  unfold out0_3
  rw [View.canon_cons_unit_lit _ _ _ (by decide)]
  rw [show View.ld c r0_0 = c from View.ld_unit_lit _ c (by decide), show View.ld w r0_1 = w from View.ld_unit_lit _ w (by decide),
    show View.ld b r0_2 = b from View.ld_unit_lit _ b (by decide)]
  unfold k0_pay1
  pointwise
  simp only [Merge.gate_eq]
  rfl

variable (m : (ℓ : Loc nD τ sig) → Buf (Elt Ideal) ℓ) (ρ : Dev nD → PrngReg)

/-! ## The blocks at a point of the grid -/

theorem ind0 : ∀ t : Fin cfg0.N, win0_0.index t = ![0, 0] :=
  (by decide +kernel : ∀ t : Fin grid0.N, win0_0.index t = ![0, 0])
theorem ind1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem ind2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])
theorem ind3 : ∀ t : Fin cfg0.N, win0_3.index t = ![(grid0.coords t 0).val, 0, (grid0.coords t 1).val] :=
  (by decide +kernel : ∀ t : Fin grid0.N, win0_3.index t = ![(grid0.coords t 0).val, 0, (grid0.coords t 1).val])

/-- Column `d` of a point's block. -/
def col (t : Fin cfg0.N) (d : Fin 1536) : Fin 6144 :=
  ⟨1536 * (grid0.coords t 1).val + d.val, by have h : (grid0.coords t 1).val < 4 := (grid0.coords t 1).isLt; omega⟩

/-- Joining equal parts. -/
theorem joined {x0 y0 : Vec Ideal S4x1024 .f32} {x1 y1 : Vec Ideal S1x1024 .f32} {x2 y2 : Vec Ideal S3x1024 .f32}
    (h0 : x0 = y0) (h1 : x1 = y1) (h2 : x2 = y2) :
    (concatenate S8x1024 0 [⟨S4x1024, x0⟩, ⟨S1x1024, x1⟩, ⟨S3x1024, x2⟩] concatenates_S4x1024_S1x1024_S3x1024_S8x1024_d0 :
      Vec Ideal S8x1024 .f32)
      = concatenate S8x1024 0 [⟨S4x1024, y0⟩, ⟨S1x1024, y1⟩, ⟨S3x1024, y2⟩] concatenates_S4x1024_S1x1024_S3x1024_S8x1024_d0 := by
  subst h0 h1 h2
  rfl

/-- The rows of conditions the call is given. -/
theorem conditions (c : Dev nD) : V m c (Pipeline.arrRef spec0 0)
    = Cert.ModsRefIdeal.Read.val_main_v2 (F := Ideal) (m ((c : Thread nD τ).loc main_arg0)) (m ((c : Thread nD τ).loc main_arg1)) := by
  show StableHlo.after hostOps0 _ (Proc.devRef .tc main_v2) = _
  unfold hostOps0
  rw [StableHlo.after_cons, StableHlo.after_cons, StableHlo.after_cons, StableHlo.after_cons, StableHlo.after_cons,
    StableHlo.after_nil]
  rw [StableHlo.reshape_result_ne]; rotate_left; decide
  rw [StableHlo.nary_result]
  refine joined ?_ ?_ ?_
  · show HloOp.result _ _ (Proc.devRef .tc main_arg0) = _
    rw [StableHlo.unary_result_ne]; rotate_left; decide
    rw [StableHlo.nullary_result_ne]; rotate_left; decide
    rw [StableHlo.unary_result_ne]; rotate_left; decide
  · show HloOp.result _ _ (Proc.devRef .tc main_v0) = _
    rw [StableHlo.unary_result_ne]; rotate_left; decide
    rw [StableHlo.nullary_result_ne]; rotate_left; decide
    rw [StableHlo.unary_result]
    rfl
  · show HloOp.result _ _ (Proc.devRef .tc main_v1) = _
    rw [StableHlo.unary_result, StableHlo.nullary_result]
    rfl

/-- The rows of conditions are the reference's. -/
theorem blk0 (c : Dev nD) (t : Fin cfg0.N) (r : Fin 8) (k : Fin 1024) : (iblk m c 0 t : Vec Ideal S8x1024 .f32) (ix2 r k)
    = Cert.ModsRefIdeal.Read.val_main_v2 (F := Ideal) (m ((c : Thread nD τ).loc main_arg0)) (m ((c : Thread nD τ).loc main_arg1))
        (ix2 r k) := by
  have e : (iblk m c 0 t : Vec Ideal S8x1024 .f32) (ix2 r k) = V m c (Pipeline.arrRef spec0 0) (ix2 r k) := by
    unfold iblk
    rw [View.read_apply]
    refine congrArg (V m c (Pipeline.arrRef spec0 0)) (funext fun a => Fin.ext ?_)
    match a with
    | ⟨0, _⟩ => show win0_0.index t 0 * 8 + 1 * r.val = r.val; rw [ind0]; simp
    | ⟨1, _⟩ => show win0_0.index t 1 * 1024 + 1 * k.val = k.val; rw [ind0]; simp
  rw [e]
  exact congrFun (conditions m c) (ix2 r k)

theorem blk1 (c : Dev nD) (t : Fin cfg0.N) (k : Fin 1024) (d : Fin 1536) :
    (iblk m c 1 t : Vec Ideal S1x1024x1536 .f32) (ix3 0 k d)
      = m ((c : Thread nD τ).loc main_arg2) (ix3 (grid0.coords t 0) k (col t d)) := by
  unfold iblk
  rw [View.read_apply, show V m c (Pipeline.arrRef spec0 1) = _ from V_main_arg2 m c]
  refine congrArg (m ((c : Thread nD τ).loc main_arg2)) (funext fun a => Fin.ext ?_)
  match a with
  | ⟨0, _⟩ => show win0_1.index t 0 * 1 + 1 * 0 = (grid0.coords t 0).val; rw [ind1]; simp
  | ⟨1, _⟩ => show win0_1.index t 1 * 1024 + 1 * k.val = k.val; rw [ind1]; simp
  | ⟨2, _⟩ => show win0_1.index t 2 * 1536 + 1 * d.val = 1536 * (grid0.coords t 1).val + d.val; rw [ind1]; simp; omega

theorem blk2 (c : Dev nD) (t : Fin cfg0.N) (d : Fin 1536) : (iblk m c 2 t : Vec Ideal S1x1x1536 .f32) (ix3 0 0 d)
    = m ((c : Thread nD τ).loc main_arg3) (ix2 (grid0.coords t 0) (col t d)) := by
  have e : (iblk m c 2 t : Vec Ideal S1x1x1536 .f32) (ix3 0 0 d)
      = V m c (Pipeline.arrRef spec0 2) (ix3 (⟨(grid0.coords t 0).val, (grid0.coords t 0).isLt⟩ : Fin 2) 0 (col t d)) := by
    unfold iblk
    rw [View.read_apply]
    refine congrArg (V m c (Pipeline.arrRef spec0 2)) (funext fun a => Fin.ext ?_)
    match a with
    | ⟨0, _⟩ => show win0_2.index t 0 * 1 + 1 * 0 = (grid0.coords t 0).val; rw [ind2]; simp
    | ⟨1, _⟩ => show win0_2.index t 1 * 1 + 1 * 0 = 0; rw [ind2]; simp
    | ⟨2, _⟩ => show win0_2.index t 2 * 1536 + 1 * d.val = 1536 * (grid0.coords t 1).val + d.val; rw [ind2]; simp; omega
  rw [e]
  entry_read
  pointwise

/-! ## The whole array -/

/-- The result array as the reference's. -/
def whole (c : Dev nD) : Vec Ideal S2x8x6144 .f32 :=
  Cert.ModsRefIdeal.Read.val_main_v8 (F := Ideal) (m ((c : Thread nD τ).loc main_arg0)) (m ((c : Thread nD τ).loc main_arg1))
    (m ((c : Thread nD τ).loc main_arg2)) (m ((c : Thread nD τ).loc main_arg3))

/-- After the run the result array is the reference's. -/
theorem result (c : Dev nD) : (dats m 0 c).arrAt 3 cfg0.N = whole m c := by
  refine (dats m 0 c).arrAt_eq_of_covers 3 _ (by decide +kernel) fun t hf y => ?_
  blk_simp
  rw [after0_3]
  obtain ⟨r, d, rfl⟩ : ∃ (r : Fin 8) (d : Fin 1536), y = ix3 0 r d := ⟨y 1, y 2, by
    have y0 : (y 0).val < 1 := (y 0).isLt
    funext a
    match a with
    | ⟨0, _⟩ => apply Fin.ext; show (y 0).val = 0; omega
    | ⟨1, _⟩ => rfl
    | ⟨2, _⟩ => rfl⟩
  have e : (win0_3.blk t).view.emb (ix3 0 r d) = ix3 (grid0.coords t 0) r (col t d) := funext fun a => Fin.ext (by
    match a with
    | ⟨0, _⟩ => show win0_3.index t 0 * 1 + 1 * 0 = (grid0.coords t 0).val; rw [ind3]; simp
    | ⟨1, _⟩ => show win0_3.index t 1 * 8 + 1 * r.val = r.val; rw [ind3]; simp
    | ⟨2, _⟩ => show win0_3.index t 2 * 1536 + 1 * d.val = 1536 * (grid0.coords t 1).val + d.val; rw [ind3]; simp; omega)
  refine Eq.trans ?_ (congrArg (whole m c) e).symm
  refine (out_ix _ _ _ r d).trans (Eq.trans ?_ (ref_ix _ _ _ _ (grid0.coords t 0) r (col t d)).symm)
  simp only [blk0, blk1, blk2]

/-- The kernel run: the result is the reference's value at the arguments, which are unchanged. -/
theorem value : θ_run defs (onTc (τ := τ) (main (F := Ideal))) ⟨m, fun _ => 0, ρ⟩ fun r => ∀ c : Dev nD,
      r.2.mem ((c : Thread nD τ).loc main_v4) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1).trans (result m c), (h c).2⟩) (Cert.ModsIdeal.Value.run_blocks m ρ)

end Cert.Proof.Mods

end
-- ==== Proof.Columns.Value.lean ====
/- The result of the call that puts the input projection's columns in order: each entry of its two results is an entry of the
   same row of the weights, or zero; the reference's likewise. -/
module

public import proofs.«01_k».proof.Proof.Gen.ColumnsIdeal.Frame
public import proofs.«01_k».proof.Proof.Gen.ColumnsRefIdeal.Read
public import Idealize.ShloMosaic.Lib.Pointwise
public import Idealize.ShloMosaic.Lib.ValueIdx
public import Idealize.ShloMosaic.Lib.Pipeline.ValueKit.Point
public import Idealize.ShloMosaic.Lib.Pipeline.ValueKit.Geometry
public import Idealize.ShloMosaic.Lib.Pipeline.ValueKit.Tiles

@[expose] public section

set_option maxRecDepth 16384

noncomputable section

namespace Cert.Proof.Columns

open Idealize.ShloMosaic Idealize.ShloMosaic.TcCoe Idealize.SL.Sem
open Idealize.ShloMosaic.Pipeline (Dat Cfg Window)
open Cert.ColumnsIdeal Cert.ColumnsIdeal.Gen

/-- An entry of a row by its number. -/
def row (w : Fin 6816 → EReal) (n : Nat) : EReal := if h : n < 6816 then w ⟨n, h⟩ else 0

theorem row_of (w : Fin 6816 → EReal) (n : Nat) (h : n < 6816) : row w n = w ⟨n, h⟩ := dif_pos h

/-- The columns in order, of one row. -/
def mix (w : Fin 6816 → EReal) (d : Nat) : EReal :=
  if d < 1280 then row w (d + 160)
  else if d < 1408 then row w (d - 1280)
  else if d < 1472 then 0
  else if d < 1504 then row w (d - 1344)
  else if d < 1512 then row w (d - 1368)
  else if d < 1520 then row w (d - 1384)
  else if d < 1528 then row w (d - 1368)
  else if d < 1536 then row w (d - 1384)
  else row w (d - 96)

/-- A piece among pieces side by side, at one column. -/
theorem piece2 (g : Nat → EReal) (r : Fin 128) (xs : List ((s : Shape) × (s.Idx → EReal)))
    (h : Shape.Concatenates (xs.map (·.1)) S128x2816 1) (k : Nat) (hk : k < xs.length) (n : Nat) (x : Vec Ideal ⟨2, ![128, n]⟩ .f32)
    (hx : xs[k] = ⟨⟨2, ![128, n]⟩, x⟩) (p : Nat)
    (hp : (((xs.take k).map (·.1)).map fun s => if e : s.rank = (S128x2816 : Shape).rank then s.size ((1 : Fin 2).cast e.symm) else 0).sum = p)
    (e : ∀ c : Fin n, x (ix2 r c) = g (p + c.val)) (d : Fin 2816) (h0 : p ≤ d.val) (h1 : d.val < p + n) :
    (concatenate S128x2816 1 xs h : Vec Ideal S128x2816 .f32) (ix2 r d) = g d.val :=
  (concatenate_apply_piece (t := S128x2816) (1 : Fin 2) xs h (ix2 r d) k hk _ x hx rfl p hp (ix2 r ⟨d.val - p, by omega⟩)
    (fun b hb => match b with | ⟨0, _⟩ => rfl | ⟨1, _⟩ => absurd rfl hb)
    (show p + (d.val - p) = d.val by omega)).trans
  ((e _).trans (congrArg g (show p + (d.val - p) = d.val by omega)))

/-- The fourteen pieces side by side, at one column. -/
theorem join2 (g : Nat → EReal) (r : Fin 128)
    (v0 : Vec Ideal S128x256 .f32) (v1 : Vec Ideal S128x256 .f32)
    (v2 : Vec Ideal S128x256 .f32) (v3 : Vec Ideal S128x256 .f32)
    (v4 : Vec Ideal S128x256 .f32) (v5 : Vec Ideal S128x128 .f32)
    (v6 : Vec Ideal S128x64 .f32) (v7 : Vec Ideal S128x32 .f32)
    (v8 : Vec Ideal S128x32 .f32) (v9 : Vec Ideal S128x256 .f32)
    (v10 : Vec Ideal S128x256 .f32) (v11 : Vec Ideal S128x256 .f32)
    (v12 : Vec Ideal S128x256 .f32) (v13 : Vec Ideal S128x256 .f32)
    (h : Shape.Concatenates (List.map (fun x => x.1) ([⟨S128x256, v0⟩, ⟨S128x256, v1⟩, ⟨S128x256, v2⟩, ⟨S128x256, v3⟩, ⟨S128x256, v4⟩, ⟨S128x128, v5⟩, ⟨S128x64, v6⟩, ⟨S128x32, v7⟩, ⟨S128x32, v8⟩, ⟨S128x256, v9⟩, ⟨S128x256, v10⟩, ⟨S128x256, v11⟩, ⟨S128x256, v12⟩, ⟨S128x256, v13⟩] : List ((s : Shape) × (s.Idx → EReal)))) S128x2816 1)
    (e0 : ∀ c : Fin 256, v0 (ix2 r c) = g (0 + c.val))
    (e1 : ∀ c : Fin 256, v1 (ix2 r c) = g (256 + c.val))
    (e2 : ∀ c : Fin 256, v2 (ix2 r c) = g (512 + c.val))
    (e3 : ∀ c : Fin 256, v3 (ix2 r c) = g (768 + c.val))
    (e4 : ∀ c : Fin 256, v4 (ix2 r c) = g (1024 + c.val))
    (e5 : ∀ c : Fin 128, v5 (ix2 r c) = g (1280 + c.val))
    (e6 : ∀ c : Fin 64, v6 (ix2 r c) = g (1408 + c.val))
    (e7 : ∀ c : Fin 32, v7 (ix2 r c) = g (1472 + c.val))
    (e8 : ∀ c : Fin 32, v8 (ix2 r c) = g (1504 + c.val))
    (e9 : ∀ c : Fin 256, v9 (ix2 r c) = g (1536 + c.val))
    (e10 : ∀ c : Fin 256, v10 (ix2 r c) = g (1792 + c.val))
    (e11 : ∀ c : Fin 256, v11 (ix2 r c) = g (2048 + c.val))
    (e12 : ∀ c : Fin 256, v12 (ix2 r c) = g (2304 + c.val))
    (e13 : ∀ c : Fin 256, v13 (ix2 r c) = g (2560 + c.val))
    (d : Fin 2816) : (concatenate S128x2816 1 [⟨S128x256, v0⟩, ⟨S128x256, v1⟩, ⟨S128x256, v2⟩, ⟨S128x256, v3⟩, ⟨S128x256, v4⟩, ⟨S128x128, v5⟩, ⟨S128x64, v6⟩, ⟨S128x32, v7⟩, ⟨S128x32, v8⟩, ⟨S128x256, v9⟩, ⟨S128x256, v10⟩, ⟨S128x256, v11⟩, ⟨S128x256, v12⟩, ⟨S128x256, v13⟩] h : Vec Ideal S128x2816 .f32) (ix2 r d) = g d.val := by
  have hd := d.isLt
  by_cases h0 : d.val < 256
  · exact piece2 g r _ h 0 (show 0 < 14 by decide) 256 v0 rfl 0 (by simp) e0 d (by omega) (by omega)
  by_cases h1 : d.val < 512
  · exact piece2 g r _ h 1 (show 1 < 14 by decide) 256 v1 rfl 256 (by simp) e1 d (by omega) (by omega)
  by_cases h2 : d.val < 768
  · exact piece2 g r _ h 2 (show 2 < 14 by decide) 256 v2 rfl 512 (by simp) e2 d (by omega) (by omega)
  by_cases h3 : d.val < 1024
  · exact piece2 g r _ h 3 (show 3 < 14 by decide) 256 v3 rfl 768 (by simp) e3 d (by omega) (by omega)
  by_cases h4 : d.val < 1280
  · exact piece2 g r _ h 4 (show 4 < 14 by decide) 256 v4 rfl 1024 (by simp) e4 d (by omega) (by omega)
  by_cases h5 : d.val < 1408
  · exact piece2 g r _ h 5 (show 5 < 14 by decide) 128 v5 rfl 1280 (by simp) e5 d (by omega) (by omega)
  by_cases h6 : d.val < 1472
  · exact piece2 g r _ h 6 (show 6 < 14 by decide) 64 v6 rfl 1408 (by simp) e6 d (by omega) (by omega)
  by_cases h7 : d.val < 1504
  · exact piece2 g r _ h 7 (show 7 < 14 by decide) 32 v7 rfl 1472 (by simp) e7 d (by omega) (by omega)
  by_cases h8 : d.val < 1536
  · exact piece2 g r _ h 8 (show 8 < 14 by decide) 32 v8 rfl 1504 (by simp) e8 d (by omega) (by omega)
  by_cases h9 : d.val < 1792
  · exact piece2 g r _ h 9 (show 9 < 14 by decide) 256 v9 rfl 1536 (by simp) e9 d (by omega) (by omega)
  by_cases h10 : d.val < 2048
  · exact piece2 g r _ h 10 (show 10 < 14 by decide) 256 v10 rfl 1792 (by simp) e10 d (by omega) (by omega)
  by_cases h11 : d.val < 2304
  · exact piece2 g r _ h 11 (show 11 < 14 by decide) 256 v11 rfl 2048 (by simp) e11 d (by omega) (by omega)
  by_cases h12 : d.val < 2560
  · exact piece2 g r _ h 12 (show 12 < 14 by decide) 256 v12 rfl 2304 (by simp) e12 d (by omega) (by omega)
  exact piece2 g r _ h 13 (show 13 < 14 by decide) 256 v13 rfl 2560 (by simp) e13 d (by omega) (by omega)

/-- A piece among pieces side by side, at one column. -/
theorem piece3 (g : Nat → EReal) (l : Fin 2) (r : Fin 1024) (xs : List ((s : Shape) × (s.Idx → EReal)))
    (h : Shape.Concatenates (xs.map (·.1)) Cert.ColumnsRefIdeal.S2x1024x2816 2) (k : Nat) (hk : k < xs.length) (n : Nat) (x : Vec Ideal ⟨3, ![2, 1024, n]⟩ .f32)
    (hx : xs[k] = ⟨⟨3, ![2, 1024, n]⟩, x⟩) (p : Nat)
    (hp : (((xs.take k).map (·.1)).map fun s => if e : s.rank = (Cert.ColumnsRefIdeal.S2x1024x2816 : Shape).rank then s.size ((2 : Fin 3).cast e.symm) else 0).sum = p)
    (e : ∀ c : Fin n, x (ix3 l r c) = g (p + c.val)) (d : Fin 2816) (h0 : p ≤ d.val) (h1 : d.val < p + n) :
    (concatenate Cert.ColumnsRefIdeal.S2x1024x2816 2 xs h : Vec Ideal Cert.ColumnsRefIdeal.S2x1024x2816 .f32) (ix3 l r d) = g d.val :=
  (concatenate_apply_piece (t := Cert.ColumnsRefIdeal.S2x1024x2816) (2 : Fin 3) xs h (ix3 l r d) k hk _ x hx rfl p hp (ix3 l r ⟨d.val - p, by omega⟩)
    (fun b hb => match b with | ⟨0, _⟩ => rfl | ⟨1, _⟩ => rfl | ⟨2, _⟩ => absurd rfl hb)
    (show p + (d.val - p) = d.val by omega)).trans
  ((e _).trans (congrArg g (show p + (d.val - p) = d.val by omega)))

/-- The fourteen pieces side by side, at one column. -/
theorem join3 (g : Nat → EReal) (l : Fin 2) (r : Fin 1024)
    (v0 : Vec Ideal Cert.ColumnsRefIdeal.S2x1024x256 .f32) (v1 : Vec Ideal Cert.ColumnsRefIdeal.S2x1024x256 .f32)
    (v2 : Vec Ideal Cert.ColumnsRefIdeal.S2x1024x256 .f32) (v3 : Vec Ideal Cert.ColumnsRefIdeal.S2x1024x256 .f32)
    (v4 : Vec Ideal Cert.ColumnsRefIdeal.S2x1024x256 .f32) (v5 : Vec Ideal Cert.ColumnsRefIdeal.S2x1024x128 .f32)
    (v6 : Vec Ideal Cert.ColumnsRefIdeal.S2x1024x64 .f32) (v7 : Vec Ideal Cert.ColumnsRefIdeal.S2x1024x32 .f32)
    (v8 : Vec Ideal Cert.ColumnsRefIdeal.S2x1024x32 .f32) (v9 : Vec Ideal Cert.ColumnsRefIdeal.S2x1024x256 .f32)
    (v10 : Vec Ideal Cert.ColumnsRefIdeal.S2x1024x256 .f32) (v11 : Vec Ideal Cert.ColumnsRefIdeal.S2x1024x256 .f32)
    (v12 : Vec Ideal Cert.ColumnsRefIdeal.S2x1024x256 .f32) (v13 : Vec Ideal Cert.ColumnsRefIdeal.S2x1024x256 .f32)
    (h : Shape.Concatenates (List.map (fun x => x.1) ([⟨Cert.ColumnsRefIdeal.S2x1024x256, v0⟩, ⟨Cert.ColumnsRefIdeal.S2x1024x256, v1⟩, ⟨Cert.ColumnsRefIdeal.S2x1024x256, v2⟩, ⟨Cert.ColumnsRefIdeal.S2x1024x256, v3⟩, ⟨Cert.ColumnsRefIdeal.S2x1024x256, v4⟩, ⟨Cert.ColumnsRefIdeal.S2x1024x128, v5⟩, ⟨Cert.ColumnsRefIdeal.S2x1024x64, v6⟩, ⟨Cert.ColumnsRefIdeal.S2x1024x32, v7⟩, ⟨Cert.ColumnsRefIdeal.S2x1024x32, v8⟩, ⟨Cert.ColumnsRefIdeal.S2x1024x256, v9⟩, ⟨Cert.ColumnsRefIdeal.S2x1024x256, v10⟩, ⟨Cert.ColumnsRefIdeal.S2x1024x256, v11⟩, ⟨Cert.ColumnsRefIdeal.S2x1024x256, v12⟩, ⟨Cert.ColumnsRefIdeal.S2x1024x256, v13⟩] : List ((s : Shape) × (s.Idx → EReal)))) Cert.ColumnsRefIdeal.S2x1024x2816 2)
    (e0 : ∀ c : Fin 256, v0 (ix3 l r c) = g (0 + c.val))
    (e1 : ∀ c : Fin 256, v1 (ix3 l r c) = g (256 + c.val))
    (e2 : ∀ c : Fin 256, v2 (ix3 l r c) = g (512 + c.val))
    (e3 : ∀ c : Fin 256, v3 (ix3 l r c) = g (768 + c.val))
    (e4 : ∀ c : Fin 256, v4 (ix3 l r c) = g (1024 + c.val))
    (e5 : ∀ c : Fin 128, v5 (ix3 l r c) = g (1280 + c.val))
    (e6 : ∀ c : Fin 64, v6 (ix3 l r c) = g (1408 + c.val))
    (e7 : ∀ c : Fin 32, v7 (ix3 l r c) = g (1472 + c.val))
    (e8 : ∀ c : Fin 32, v8 (ix3 l r c) = g (1504 + c.val))
    (e9 : ∀ c : Fin 256, v9 (ix3 l r c) = g (1536 + c.val))
    (e10 : ∀ c : Fin 256, v10 (ix3 l r c) = g (1792 + c.val))
    (e11 : ∀ c : Fin 256, v11 (ix3 l r c) = g (2048 + c.val))
    (e12 : ∀ c : Fin 256, v12 (ix3 l r c) = g (2304 + c.val))
    (e13 : ∀ c : Fin 256, v13 (ix3 l r c) = g (2560 + c.val))
    (d : Fin 2816) : (concatenate Cert.ColumnsRefIdeal.S2x1024x2816 2 [⟨Cert.ColumnsRefIdeal.S2x1024x256, v0⟩, ⟨Cert.ColumnsRefIdeal.S2x1024x256, v1⟩, ⟨Cert.ColumnsRefIdeal.S2x1024x256, v2⟩, ⟨Cert.ColumnsRefIdeal.S2x1024x256, v3⟩, ⟨Cert.ColumnsRefIdeal.S2x1024x256, v4⟩, ⟨Cert.ColumnsRefIdeal.S2x1024x128, v5⟩, ⟨Cert.ColumnsRefIdeal.S2x1024x64, v6⟩, ⟨Cert.ColumnsRefIdeal.S2x1024x32, v7⟩, ⟨Cert.ColumnsRefIdeal.S2x1024x32, v8⟩, ⟨Cert.ColumnsRefIdeal.S2x1024x256, v9⟩, ⟨Cert.ColumnsRefIdeal.S2x1024x256, v10⟩, ⟨Cert.ColumnsRefIdeal.S2x1024x256, v11⟩, ⟨Cert.ColumnsRefIdeal.S2x1024x256, v12⟩, ⟨Cert.ColumnsRefIdeal.S2x1024x256, v13⟩] h : Vec Ideal Cert.ColumnsRefIdeal.S2x1024x2816 .f32) (ix3 l r d) = g d.val := by
  have hd := d.isLt
  by_cases h0 : d.val < 256
  · exact piece3 g l r _ h 0 (show 0 < 14 by decide) 256 v0 rfl 0 (by simp) e0 d (by omega) (by omega)
  by_cases h1 : d.val < 512
  · exact piece3 g l r _ h 1 (show 1 < 14 by decide) 256 v1 rfl 256 (by simp) e1 d (by omega) (by omega)
  by_cases h2 : d.val < 768
  · exact piece3 g l r _ h 2 (show 2 < 14 by decide) 256 v2 rfl 512 (by simp) e2 d (by omega) (by omega)
  by_cases h3 : d.val < 1024
  · exact piece3 g l r _ h 3 (show 3 < 14 by decide) 256 v3 rfl 768 (by simp) e3 d (by omega) (by omega)
  by_cases h4 : d.val < 1280
  · exact piece3 g l r _ h 4 (show 4 < 14 by decide) 256 v4 rfl 1024 (by simp) e4 d (by omega) (by omega)
  by_cases h5 : d.val < 1408
  · exact piece3 g l r _ h 5 (show 5 < 14 by decide) 128 v5 rfl 1280 (by simp) e5 d (by omega) (by omega)
  by_cases h6 : d.val < 1472
  · exact piece3 g l r _ h 6 (show 6 < 14 by decide) 64 v6 rfl 1408 (by simp) e6 d (by omega) (by omega)
  by_cases h7 : d.val < 1504
  · exact piece3 g l r _ h 7 (show 7 < 14 by decide) 32 v7 rfl 1472 (by simp) e7 d (by omega) (by omega)
  by_cases h8 : d.val < 1536
  · exact piece3 g l r _ h 8 (show 8 < 14 by decide) 32 v8 rfl 1504 (by simp) e8 d (by omega) (by omega)
  by_cases h9 : d.val < 1792
  · exact piece3 g l r _ h 9 (show 9 < 14 by decide) 256 v9 rfl 1536 (by simp) e9 d (by omega) (by omega)
  by_cases h10 : d.val < 2048
  · exact piece3 g l r _ h 10 (show 10 < 14 by decide) 256 v10 rfl 1792 (by simp) e10 d (by omega) (by omega)
  by_cases h11 : d.val < 2304
  · exact piece3 g l r _ h 11 (show 11 < 14 by decide) 256 v11 rfl 2048 (by simp) e11 d (by omega) (by omega)
  by_cases h12 : d.val < 2560
  · exact piece3 g l r _ h 12 (show 12 < 14 by decide) 256 v12 rfl 2304 (by simp) e12 d (by omega) (by omega)
  exact piece3 g l r _ h 13 (show 13 < 14 by decide) 256 v13 rfl 2560 (by simp) e13 d (by omega) (by omega)

section Ref
open Cert.ColumnsRefIdeal.Read

/-- The reference's gate columns. -/
theorem ref_gate (w : Vec Ideal S2x1024x6816 .f32) (l : Fin 2) (r : Fin 1024) (d : Fin 4096) :
    val_main_v22 (F := Ideal) w (ix3 l r d) = w (ix3 l r ⟨2720 + d.val, by omega⟩) := by
  unfold val_main_v22 val_main_v14 val_main_v1
  pointwise
  exact congrArg (fun k => w (ix3 l r k)) (Fin.ext (by simp only []; omega))

set_option maxHeartbeats 4000000 in
/-- The reference's other columns. -/
theorem ref_mix (w : Vec Ideal S2x1024x6816 .f32) (l : Fin 2) (r : Fin 1024) (d : Fin 2816) :
    val_main_v23 (F := Ideal) w (ix3 l r d) = mix (fun k => w (ix3 l r k)) d.val := by
  show val_main_v21 (F := Ideal) w (ix3 l r d) = _
  unfold val_main_v21 val_main_v20 val_main_v19 val_main_v18 val_main_v17 val_main_v16 val_main_v15 val_main_v13
    val_main_v12 val_main_v11 val_main_v10 val_main_v9 val_main_v8 val_main_v7 val_main_v6 val_main_v5 val_main_v4 val_main_v3
    val_main_v2 val_main_v1 val_main_v0 val_main_cst
  refine join3 (mix fun k => w (ix3 l r k)) l r _ _ _ _ _ _ _ _ _ _ _ _ _ _
    Cert.ColumnsRefIdeal.Facts₀.concatenates_S2x1024x256_S2x1024x256_S2x1024x256_S2x1024x256_S2x1024x256_S2x1024x128_S2x1024x64_S2x1024x32_S2x1024x32_S2x1024x256_S2x1024x256_S2x1024x256_S2x1024x256_S2x1024x256_S2x1024x2816_d2
    ?_ ?_ ?_ ?_ ?_ ?_ ?_ ?_ ?_ ?_ ?_ ?_ ?_ ?_ d
  all_goals intro c
  all_goals have hc := c.isLt
  all_goals pointwise
  all_goals unfold mix
  all_goals split_ifs
  all_goals first
    | omega
    | rfl
    | (rw [row_of _ _ (by omega)]; exact congrArg (fun k => w (ix3 l r k)) (Fin.ext (by simp only []; omega)))
    | (rw [if_neg (show ¬ 1504 + c.val < 1280 by omega), if_neg (show ¬ 1504 + c.val < 1408 by omega), if_neg (show ¬ 1504 + c.val < 1472 by omega), if_neg (show ¬ 1504 + c.val < 1504 by omega)]
       first
         | (rw [if_pos (show 1504 + c.val < 1512 by omega), row_of _ _ (by omega)]
            exact congrArg (fun k => w (ix3 l r k)) (Fin.ext (by simp only []; omega)))
         | (rw [if_neg (show ¬ 1504 + c.val < 1512 by omega), if_pos (show 1504 + c.val < 1520 by omega), row_of _ _ (by omega)]
            exact congrArg (fun k => w (ix3 l r k)) (Fin.ext (by simp only []; omega)))
         | (rw [if_neg (show ¬ 1504 + c.val < 1512 by omega), if_neg (show ¬ 1504 + c.val < 1520 by omega), if_pos (show 1504 + c.val < 1528 by omega), row_of _ _ (by omega)]
            exact congrArg (fun k => w (ix3 l r k)) (Fin.ext (by simp only []; omega)))
         | (rw [if_neg (show ¬ 1504 + c.val < 1512 by omega), if_neg (show ¬ 1504 + c.val < 1520 by omega), if_neg (show ¬ 1504 + c.val < 1528 by omega), if_pos (show 1504 + c.val < 1536 by omega), row_of _ _ (by omega)]
            exact congrArg (fun k => w (ix3 l r k)) (Fin.ext (by simp only []; omega))))

end Ref

/-- The kernel's gate columns of a block. -/
theorem out_gate (w : Vec Ideal S1x128x6816 .f32) (r : Fin 128) (d : Fin 4096) :
    out0_1 w (ix3 0 r d) = w (ix3 0 r ⟨2720 + d.val, by omega⟩) := by
  unfold out0_1
  rw [View.canon_cons_unit_lit _ _ _ (by decide)]
  rw [show View.ld w r0_0 = w from View.ld_unit_lit _ w (by decide)]
  unfold k0_pay2 k0_pay1
  pointwise

set_option maxHeartbeats 4000000 in
/-- The kernel's other columns of a block. -/
theorem out_mix (w : Vec Ideal S1x128x6816 .f32) (r : Fin 128) (d : Fin 2816) :
    out0_2 w (ix3 0 r d) = mix (fun k => w (ix3 0 r k)) d.val := by
  unfold out0_2
  rw [View.canon_cons_unit_lit _ _ _ (by decide)]
  rw [show View.ld w r0_0 = w from View.ld_unit_lit _ w (by decide)]
  unfold k0_pay3 k0_pay1
  refine Eq.trans (shapeCast_apply _ _ (ix3 0 r d) (ix2 r d) ?_) ?_
  · rw [Shape.rowMajor_val_two, Shape.rowMajor_val_three]
    show r.val * 2816 + d.val = (0 * 128 + r.val) * 2816 + d.val
    omega
  refine join2 (mix fun k => w (ix3 0 r k)) r _ _ _ _ _ _ _ _ _ _ _ _ _ _
    concatenates_S128x256_S128x256_S128x256_S128x256_S128x256_S128x128_S128x64_S128x32_S128x32_S128x256_S128x256_S128x256_S128x256_S128x256_S128x2816_d1
    ?_ ?_ ?_ ?_ ?_ ?_ ?_ ?_ ?_ ?_ ?_ ?_ ?_ ?_ d
  all_goals intro c
  all_goals have hc := c.isLt
  all_goals pointwise
  all_goals unfold mix
  all_goals split_ifs
  all_goals first
    | omega
    | rfl
    | (rw [row_of _ _ (by omega)]; exact congrArg (fun k => w (ix3 0 r k)) (Fin.ext (by simp only []; omega)))
    | (rw [if_neg (show ¬ 1504 + c.val < 1280 by omega), if_neg (show ¬ 1504 + c.val < 1408 by omega), if_neg (show ¬ 1504 + c.val < 1472 by omega), if_neg (show ¬ 1504 + c.val < 1504 by omega)]
       first
         | (rw [if_pos (show 1504 + c.val < 1512 by omega), row_of _ _ (by omega)]
            exact congrArg (fun k => w (ix3 0 r k)) (Fin.ext (by simp only []; omega)))
         | (rw [if_neg (show ¬ 1504 + c.val < 1512 by omega), if_pos (show 1504 + c.val < 1520 by omega), row_of _ _ (by omega)]
            exact congrArg (fun k => w (ix3 0 r k)) (Fin.ext (by simp only []; omega)))
         | (rw [if_neg (show ¬ 1504 + c.val < 1512 by omega), if_neg (show ¬ 1504 + c.val < 1520 by omega), if_pos (show 1504 + c.val < 1528 by omega), row_of _ _ (by omega)]
            exact congrArg (fun k => w (ix3 0 r k)) (Fin.ext (by simp only []; omega)))
         | (rw [if_neg (show ¬ 1504 + c.val < 1512 by omega), if_neg (show ¬ 1504 + c.val < 1520 by omega), if_neg (show ¬ 1504 + c.val < 1528 by omega), if_pos (show 1504 + c.val < 1536 by omega), row_of _ _ (by omega)]
            exact congrArg (fun k => w (ix3 0 r k)) (Fin.ext (by simp only []; omega))))

variable (m : (ℓ : Loc nD τ sig) → Buf (Elt Ideal) ℓ) (ρ : Dev nD → PrngReg)

/-! ## The blocks at a point of the grid -/

theorem ind0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem ind1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem ind2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])

/-- Row `r` of a point's block. -/
def line (t : Fin cfg0.N) (r : Fin 128) : Fin 1024 :=
  ⟨128 * (grid0.coords t 1).val + r.val, by have h : (grid0.coords t 1).val < 8 := (grid0.coords t 1).isLt; omega⟩

theorem blk0 (c : Dev nD) (t : Fin cfg0.N) (r : Fin 128) (k : Fin 6816) : (iblk m c 0 t : Vec Ideal S1x128x6816 .f32) (ix3 0 r k)
    = m ((c : Thread nD τ).loc main_arg0) (ix3 (grid0.coords t 0) (line t r) k) := by
  unfold iblk
  rw [View.read_apply, show V m c (Pipeline.arrRef spec0 0) = _ from V_main_arg0 m c]
  refine congrArg (m ((c : Thread nD τ).loc main_arg0)) (funext fun a => Fin.ext ?_)
  match a with
  | ⟨0, _⟩ => show win0_0.index t 0 * 1 + 1 * 0 = (grid0.coords t 0).val; rw [ind0]; simp
  | ⟨1, _⟩ => show win0_0.index t 1 * 128 + 1 * r.val = 128 * (grid0.coords t 1).val + r.val; rw [ind0]; simp; omega
  | ⟨2, _⟩ => show win0_0.index t 2 * 6816 + 1 * k.val = k.val; rw [ind0]; simp

/-! ## The whole arrays -/

/-- The gates' columns as the reference's. -/
def wholeGate (c : Dev nD) : Vec Ideal S2x1024x4096 .bf16 :=
  Cert.ColumnsRefIdeal.Read.val_main_v22 (F := Ideal) (m ((c : Thread nD τ).loc main_arg0))

/-- The other columns as the reference's. -/
def wholeMix (c : Dev nD) : Vec Ideal S2x1024x2816 .bf16 :=
  Cert.ColumnsRefIdeal.Read.val_main_v23 (F := Ideal) (m ((c : Thread nD τ).loc main_arg0))

/-- After the run the result array is the reference's. -/
theorem result_gate (c : Dev nD) : (dats m 0 c).arrAt 1 cfg0.N = wholeGate m c := by
  refine (dats m 0 c).arrAt_eq_of_covers 1 _ (by decide +kernel) fun t hf y => ?_
  blk_simp
  rw [after0_1]
  obtain ⟨r, d, rfl⟩ : ∃ (r : Fin 128) (d : Fin 4096), y = ix3 0 r d := ⟨y 1, y 2, by
    have y0 : (y 0).val < 1 := (y 0).isLt
    funext a
    match a with
    | ⟨0, _⟩ => apply Fin.ext; show (y 0).val = 0; omega
    | ⟨1, _⟩ => rfl
    | ⟨2, _⟩ => rfl⟩
  have e : (win0_1.blk t).view.emb (ix3 0 r d) = ix3 (grid0.coords t 0) (line t r) d := funext fun a => Fin.ext (by
    match a with
    | ⟨0, _⟩ => show win0_1.index t 0 * 1 + 1 * 0 = (grid0.coords t 0).val; rw [ind1]; simp
    | ⟨1, _⟩ => show win0_1.index t 1 * 128 + 1 * r.val = 128 * (grid0.coords t 1).val + r.val; rw [ind1]; simp; omega
    | ⟨2, _⟩ => show win0_1.index t 2 * 4096 + 1 * d.val = d.val; rw [ind1]; simp)
  refine Eq.trans ?_ (congrArg (wholeGate m c) e).symm
  refine (out_gate _ r d).trans (Eq.trans ?_ (ref_gate _ (grid0.coords t 0) (line t r) d).symm)
  simp only [blk0]

/-- After the run the result array is the reference's. -/
theorem result_mix (c : Dev nD) : (dats m 0 c).arrAt 2 cfg0.N = wholeMix m c := by
  refine (dats m 0 c).arrAt_eq_of_covers 2 _ (by decide +kernel) fun t hf y => ?_
  blk_simp
  rw [after0_2]
  obtain ⟨r, d, rfl⟩ : ∃ (r : Fin 128) (d : Fin 2816), y = ix3 0 r d := ⟨y 1, y 2, by
    have y0 : (y 0).val < 1 := (y 0).isLt
    funext a
    match a with
    | ⟨0, _⟩ => apply Fin.ext; show (y 0).val = 0; omega
    | ⟨1, _⟩ => rfl
    | ⟨2, _⟩ => rfl⟩
  have e : (win0_2.blk t).view.emb (ix3 0 r d) = ix3 (grid0.coords t 0) (line t r) d := funext fun a => Fin.ext (by
    match a with
    | ⟨0, _⟩ => show win0_2.index t 0 * 1 + 1 * 0 = (grid0.coords t 0).val; rw [ind2]; simp
    | ⟨1, _⟩ => show win0_2.index t 1 * 128 + 1 * r.val = 128 * (grid0.coords t 1).val + r.val; rw [ind2]; simp; omega
    | ⟨2, _⟩ => show win0_2.index t 2 * 2816 + 1 * d.val = d.val; rw [ind2]; simp)
  refine Eq.trans ?_ (congrArg (wholeMix m c) e).symm
  refine (out_mix _ r d).trans (Eq.trans ?_ (ref_mix _ (grid0.coords t 0) (line t r) d).symm)
  simp only [blk0]

/-- The kernel run: the results are the reference's values at the argument, which is unchanged. -/
theorem value : θ_run defs (onTc (τ := τ) (main (F := Ideal))) ⟨m, fun _ => 0, ρ⟩ fun r => ∀ c : Dev nD,
      r.2.mem ((c : Thread nD τ).loc main_v0_0) = wholeGate m c
      ∧ r.2.mem ((c : Thread nD τ).loc main_v0_1) = wholeMix m c
      ∧ r.2.mem ((c : Thread nD τ).loc main_arg0) = m ((c : Thread nD τ).loc main_arg0) :=
  (θ_run defs _ _).mono (fun r h c => ⟨((h c).1 1).trans (result_gate m c), ((h c).1 2).trans (result_mix m c),
    ((h c).1 0).trans (((dats m 0 c).arrAt_in 0 rfl _).trans ((A_eq m c 0).trans (V_main_arg0 m c)))⟩) (run_main m ρ)

end Cert.Proof.Columns

end
-- ==== Proof.lean ====
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.AttnRefIdeal.Run
public import proofs.«01_k».proof.Proof.Gen.AttnRefIdeal.Read
public import proofs.«01_k».proof.Proof.Attn.Frame
public import proofs.«01_k».proof.Proof.Attn.Equal
public import proofs.«01_k».proof.Proof.Attn.Same
public import proofs.«01_k».proof.Proof.Attn.Finite
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Ffn.Value
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Merge.Value
public import proofs.«01_k».proof.Proof.Merge.Finite
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Inproj.Value
public import proofs.«01_k».proof.Proof.Gen.Mods
public import proofs.«01_k».proof.Proof.Gen.Mods.Frame
public import proofs.«01_k».proof.Proof.Gen.ModsIdeal
public import proofs.«01_k».proof.Proof.Gen.ModsIdeal.Frame
public import proofs.«01_k».proof.Proof.Gen.ModsRefIdeal
public import proofs.«01_k».proof.Proof.Gen.ModsRefIdeal.Run
public import proofs.«01_k».proof.Proof.Gen.ModsRefIdeal.Read
public import proofs.«01_k».proof.Proof.Mods.Value
public import proofs.«01_k».proof.Proof.Gen.Columns
public import proofs.«01_k».proof.Proof.Gen.Columns.Frame
public import proofs.«01_k».proof.Proof.Gen.ColumnsIdeal
public import proofs.«01_k».proof.Proof.Gen.ColumnsIdeal.Frame
public import proofs.«01_k».proof.Proof.Gen.ColumnsRefIdeal
public import proofs.«01_k».proof.Proof.Gen.ColumnsRefIdeal.Run
public import proofs.«01_k».proof.Proof.Gen.ColumnsRefIdeal.Read
public import proofs.«01_k».proof.Proof.Columns.Value
public import Idealize.ShloMosaic.Adequacy
public import Idealize.ShloMosaic.Init

@[expose] public section

noncomputable section

namespace Cert.Proof

open Idealize.ShloMosaic Idealize.SL.Sem

/-- The reference leaves its arguments and the counters. -/
theorem reference : quiescent_AttnRefIdeal := fun m g _ => (θ_run _ _ _).mono
  (fun r h => ⟨fun c => (h c).2, sem_eq_zero_of_no_sems (by decide) r.2⟩)
  (Cert.AttnRefIdeal.Value.run m g)

/-- The attention call's result is the reference's when the queries and keys are real numbers. -/
theorem attention : algebraic_AttnIdeal_AttnRefIdeal_pre_finite := fun m g m' g' hp ha =>
  ⟨_, Attn.value m g, (θ_run _ _ _).mono (fun r h c => by
    obtain ⟨a0, a1, a2, a3, a4⟩ := ha c
    refine ⟨?_, (h c).2⟩
    rw [(h c).1, Cert.AttnRefIdeal.Read.val_main_v24_eq, a0, a1, a2, a3, a4]
    exact (Attn.attn_eq _ _ _ _ _ (Finite.queries _ _ _ _ _ (hp c)) (Finite.context _ _ _ _ _ (hp c))
      (Finite.latent _ _ _ _ _ (hp c))).symm) (Cert.AttnRefIdeal.Value.run m' g')⟩

/-- The feed-forward call's reference leaves its arguments and the counters. -/
theorem ffn_reference : quiescent_FfnRefIdeal := fun m g _ => (θ_run _ _ _).mono
  (fun r h => ⟨fun c => (h c).2, sem_eq_zero_of_no_sems (by decide) r.2⟩)
  (Cert.FfnRefIdeal.Value.run m g)

/-- The feed-forward call's result is the reference's, whatever the arguments. -/
theorem ffn : algebraic_FfnIdeal_FfnRefIdeal := fun m g m' g' _ ha =>
  ⟨_, Ffn.value m g, (θ_run _ _ _).mono (fun r h c => by
    obtain ⟨a0, a1, a2, a3, a4⟩ := ha c
    refine ⟨?_, (h c).2⟩
    rw [(h c).1, Cert.FfnRefIdeal.Read.val_main_v37_eq, a0, a1, a2, a3, a4]
    rfl) (Cert.FfnRefIdeal.Value.run m' g')⟩

/-- The merge call's reference leaves its arguments and the counters. -/
theorem merge_reference : quiescent_MergeRefIdeal := fun m g _ => (θ_run _ _ _).mono
  (fun r h => ⟨fun c => (h c).2, sem_eq_zero_of_no_sems (by decide) r.2⟩)
  (Cert.MergeRefIdeal.Value.run m g)

/-- The merge call's result is the reference's when the reading's three parts add up to real numbers. -/
theorem merge : algebraic_MergeIdeal_MergeRefIdeal_pre_numbers := fun m g m' g' hp ha =>
  ⟨_, Merge.value m g (fun c b t k => Numbers.parts _ _ _ _ _ _ _ _ _ _ _ _ _ _ (hp c) b t k),
    (θ_run _ _ _).mono (fun r h c => by
      obtain ⟨a0, a1, a2, a3, a4, a5, a6, a7, a8, a9, a10, a11, a12, a13⟩ := ha c
      refine ⟨?_, (h c).2⟩
      rw [(h c).1, Cert.MergeRefIdeal.Read.val_main_v84_eq, a0, a1, a2, a3, a4, a5, a6, a7, a8, a9, a10, a11, a12, a13]
      rfl) (Cert.MergeRefIdeal.Value.run m' g')⟩

/-- The input projection call's reference leaves its arguments and the counters. -/
theorem inproj_reference : quiescent_InprojRefIdeal := fun m g _ => (θ_run _ _ _).mono
  (fun r h => ⟨fun c => (h c).2, sem_eq_zero_of_no_sems (by decide) r.2⟩)
  (Cert.InprojRefIdeal.Value.run m g)

/-- The input projection call's result is the reference's, whatever the arguments. -/
theorem inproj : algebraic_InprojIdeal_InprojRefIdeal := fun m g m' g' _ ha =>
  ⟨_, Inproj.value m g, (θ_run _ _ _).mono (fun r h c => by
    obtain ⟨a0, a1, a2, a3⟩ := ha c
    refine ⟨?_, (h c).2⟩
    rw [(h c).1, Cert.InprojRefIdeal.Read.val_main_v30_eq, a0, a1, a2, a3]
    rfl) (Cert.InprojRefIdeal.Value.run m' g')⟩

/-- The modulation call's reference leaves its arguments and the counters. -/
theorem mods_reference : quiescent_ModsRefIdeal := fun m g _ => (θ_run _ _ _).mono
  (fun r h => ⟨fun c => (h c).2, sem_eq_zero_of_no_sems (by decide) r.2⟩)
  (Cert.ModsRefIdeal.Value.run m g)

/-- The modulation call's result is the reference's, whatever the arguments. -/
theorem mods : algebraic_ModsIdeal_ModsRefIdeal := fun m g m' g' _ ha =>
  ⟨_, Mods.value m g, (θ_run _ _ _).mono (fun r h c => by
    obtain ⟨a0, a1, a2, a3⟩ := ha c
    refine ⟨?_, (h c).2⟩
    rw [(h c).1, Cert.ModsRefIdeal.Read.val_main_v8_eq, a0, a1, a2, a3]
    rfl) (Cert.ModsRefIdeal.Value.run m' g')⟩

/-- The column order call's reference leaves its argument and the counters. -/
theorem columns_reference : quiescent_ColumnsRefIdeal := fun m g _ => (θ_run _ _ _).mono
  (fun r h => ⟨fun c => (h c).2.2, sem_eq_zero_of_no_sems (by decide) r.2⟩)
  (Cert.ColumnsRefIdeal.Value.run m g)

/-- The column order call's two results are the reference's, whatever the weights. -/
theorem columns : algebraic_ColumnsIdeal_ColumnsRefIdeal := fun m g m' g' _ ha =>
  ⟨_, _, Columns.value m g, (θ_run _ _ _).mono (fun r h c => by
    have a0 := ha c
    refine ⟨?_, ?_, (h c).2.2⟩
    · rw [(h c).1, Cert.ColumnsRefIdeal.Read.val_main_v22_eq, a0]
      rfl
    · rw [(h c).2.1, Cert.ColumnsRefIdeal.Read.val_main_v23_eq, a0]
      rfl) (Cert.ColumnsRefIdeal.Value.run m' g')⟩

theorem claim : Cert.Claim := ⟨Cert.Attn.Gen.facts, Cert.AttnIdeal.Gen.facts, Cert.AttnRefIdeal.Gen.facts,
  Cert.Ffn.Gen.facts, Cert.FfnIdeal.Gen.facts, Cert.FfnRefIdeal.Gen.facts,
  Cert.Merge.Gen.facts, Cert.MergeIdeal.Gen.facts, Cert.MergeRefIdeal.Gen.facts,
  Cert.Inproj.Gen.facts, Cert.InprojIdeal.Gen.facts, Cert.InprojRefIdeal.Gen.facts,
  Cert.Mods.Gen.facts, Cert.ModsIdeal.Gen.facts, Cert.ModsRefIdeal.Gen.facts,
  Cert.Columns.Gen.facts, Cert.ColumnsIdeal.Gen.facts, Cert.ColumnsRefIdeal.Gen.facts, Finite.facts, Numbers.facts,
  Attn.frame,
  fun m g _ => Attn.frame_ideal m g,
  fun m g _ => Attn.frame_ideal m g,
  reference,
  fun m g _ => reference m g trivial,
  fun m g _ => Cert.Ffn.Gen.frame m g,
  fun m g _ => Cert.FfnIdeal.Gen.frame m g,
  ffn_reference,
  fun m g _ => Cert.Merge.Gen.frame m g,
  fun m g _ => Cert.MergeIdeal.Gen.frame m g,
  fun m g _ => Cert.MergeIdeal.Gen.frame m g,
  merge_reference,
  fun m g _ => merge_reference m g trivial,
  fun m g _ => Cert.Inproj.Gen.frame m g,
  fun m g _ => Cert.InprojIdeal.Gen.frame m g,
  inproj_reference,
  fun m g _ => Cert.Mods.Gen.frame m g,
  fun m g _ => Cert.ModsIdeal.Gen.frame m g,
  mods_reference,
  fun m g _ => Cert.Columns.Gen.frame m g,
  fun m g _ => Cert.ColumnsIdeal.Gen.frame m g,
  columns_reference,
  trivial,
  attention,
  trivial,
  ffn,
  trivial,
  merge,
  trivial,
  inproj,
  trivial,
  mods,
  trivial,
  columns⟩

end Cert.Proof

end
